-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcReferenceIdeal (m : (ℓ : Loc Cert.XbcReferenceIdeal.nD Cert.XbcReferenceIdeal.τ Cert.XbcReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1)
      ∧ r.2.mem ((c.tc : Thread Cert.Xbc.nD Cert.Xbc.τ).loc Cert.Xbc.main_arg2) = m ((c.tc : Thread Cert.Xbc.nD Cert.Xbc.τ).loc Cert.Xbc.main_arg2)
      ∧ r.2.mem ((c.tc : Thread Cert.Xbc.nD Cert.Xbc.τ).loc Cert.Xbc.main_arg3) = m ((c.tc : Thread Cert.Xbc.nD Cert.Xbc.τ).loc Cert.Xbc.main_arg3))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
      ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2)
      ∧ r.2.mem ((c.tc : Thread Cert.XbcIdeal.nD Cert.XbcIdeal.τ).loc Cert.XbcIdeal.main_arg3) = m ((c.tc : Thread Cert.XbcIdeal.nD Cert.XbcIdeal.τ).loc Cert.XbcIdeal.main_arg3))
      ∧ r.2.sem = fun _ => 0)

def quiescent_XbcReferenceIdeal [hXbcReferenceIdeal : Cert.XbcReferenceIdeal.Facts] : Prop :=
  ∀ (m : (ℓ : Loc Cert.XbcReferenceIdeal.nD Cert.XbcReferenceIdeal.τ Cert.XbcReferenceIdeal.sig) → Buf (Elt Ideal) ℓ) (g : Dev Cert.XbcReferenceIdeal.nD → PrngReg), Pre_XbcReferenceIdeal m →
    θ_run (Cert.XbcReferenceIdeal.defs (F := Ideal)) (onTc (τ := Cert.XbcReferenceIdeal.τ) (Cert.XbcReferenceIdeal.main (F := Ideal))) ⟨m, fun _ => 0, g⟩ (fun r => (∀ c : Dev Cert.XbcReferenceIdeal.nD,
      r.2.mem ((c.tc : Thread Cert.XbcReferenceIdeal.nD Cert.XbcReferenceIdeal.τ).loc Cert.XbcReferenceIdeal.main_arg0) = m ((c.tc : Thread Cert.XbcReferenceIdeal.nD Cert.XbcReferenceIdeal.τ).loc Cert.XbcReferenceIdeal.main_arg0)
      ∧ r.2.mem ((c.tc : Thread Cert.XbcReferenceIdeal.nD Cert.XbcReferenceIdeal.τ).loc Cert.XbcReferenceIdeal.main_arg1) = m ((c.tc : Thread Cert.XbcReferenceIdeal.nD Cert.XbcReferenceIdeal.τ).loc Cert.XbcReferenceIdeal.main_arg1)
      ∧ r.2.mem ((c.tc : Thread Cert.XbcReferenceIdeal.nD Cert.XbcReferenceIdeal.τ).loc Cert.XbcReferenceIdeal.main_arg2) = m ((c.tc : Thread Cert.XbcReferenceIdeal.nD Cert.XbcReferenceIdeal.τ).loc Cert.XbcReferenceIdeal.main_arg2)
      ∧ r.2.mem ((c.tc : Thread Cert.XbcReferenceIdeal.nD Cert.XbcReferenceIdeal.τ).loc Cert.XbcReferenceIdeal.main_arg3) = m ((c.tc : Thread Cert.XbcReferenceIdeal.nD Cert.XbcReferenceIdeal.τ).loc Cert.XbcReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v49) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v13) = v0 c
          ∧ r.2.mem ((c.tc : Thread Cert.MergeReferenceIdeal.nD Cert.MergeReferenceIdeal.τ).loc Cert.MergeReferenceIdeal.main_v34) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v6)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v12) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Xbc_XbcIdeal : Prop :=
  True

def algebraic_XbcIdeal_XbcReferenceIdeal [hXbcIdeal : Cert.XbcIdeal.Facts] [hXbcReferenceIdeal : Cert.XbcReferenceIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcReferenceIdeal.nD Cert.XbcReferenceIdeal.τ Cert.XbcReferenceIdeal.sig) → Buf (Elt Ideal) ℓ) (g' : Dev Cert.XbcReferenceIdeal.nD → PrngReg), Pre_XbcIdeal m →
    (∀ c : Dev Cert.XbcIdeal.nD,
      m' ((c.tc : Thread Cert.XbcReferenceIdeal.nD Cert.XbcReferenceIdeal.τ).loc Cert.XbcReferenceIdeal.main_arg0) = m ((c.tc : Thread Cert.XbcIdeal.nD Cert.XbcIdeal.τ).loc Cert.XbcIdeal.main_arg0)
      ∧ m' ((c.tc : Thread Cert.XbcReferenceIdeal.nD Cert.XbcReferenceIdeal.τ).loc Cert.XbcReferenceIdeal.main_arg1) = m ((c.tc : Thread Cert.XbcIdeal.nD Cert.XbcIdeal.τ).loc Cert.XbcIdeal.main_arg1)
      ∧ m' ((c.tc : Thread Cert.XbcReferenceIdeal.nD Cert.XbcReferenceIdeal.τ).loc Cert.XbcReferenceIdeal.main_arg2) = m ((c.tc : Thread Cert.XbcIdeal.nD Cert.XbcIdeal.τ).loc Cert.XbcIdeal.main_arg2)
      ∧ m' ((c.tc : Thread Cert.XbcReferenceIdeal.nD Cert.XbcReferenceIdeal.τ).loc Cert.XbcReferenceIdeal.main_arg3) = m ((c.tc : Thread Cert.XbcIdeal.nD Cert.XbcIdeal.τ).loc Cert.XbcIdeal.main_arg3)) →
    ∃ (v0 : (c : Dev Cert.XbcIdeal.nD) → Buf (Elt Ideal) ((c.tc : Thread Cert.XbcIdeal.nD Cert.XbcIdeal.τ).loc Cert.XbcIdeal.main_v7)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v7) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1)
          ∧ r.2.mem ((c.tc : Thread Cert.XbcIdeal.nD Cert.XbcIdeal.τ).loc Cert.XbcIdeal.main_arg2) = m ((c.tc : Thread Cert.XbcIdeal.nD Cert.XbcIdeal.τ).loc Cert.XbcIdeal.main_arg2)
          ∧ r.2.mem ((c.tc : Thread Cert.XbcIdeal.nD Cert.XbcIdeal.τ).loc Cert.XbcIdeal.main_arg3) = m ((c.tc : Thread Cert.XbcIdeal.nD Cert.XbcIdeal.τ).loc Cert.XbcIdeal.main_arg3))
      ∧ θ_run (Cert.XbcReferenceIdeal.defs (F := Ideal)) (onTc (τ := Cert.XbcReferenceIdeal.τ) (Cert.XbcReferenceIdeal.main (F := Ideal))) ⟨m', fun _ => 0, g'⟩ (fun r => ∀ c : Dev Cert.XbcReferenceIdeal.nD,
          r.2.mem ((c.tc : Thread Cert.XbcReferenceIdeal.nD Cert.XbcReferenceIdeal.τ).loc Cert.XbcReferenceIdeal.main_v30) = v0 c
          ∧ r.2.mem ((c.tc : Thread Cert.XbcReferenceIdeal.nD Cert.XbcReferenceIdeal.τ).loc Cert.XbcReferenceIdeal.main_arg0) = m' ((c.tc : Thread Cert.XbcReferenceIdeal.nD Cert.XbcReferenceIdeal.τ).loc Cert.XbcReferenceIdeal.main_arg0)
          ∧ r.2.mem ((c.tc : Thread Cert.XbcReferenceIdeal.nD Cert.XbcReferenceIdeal.τ).loc Cert.XbcReferenceIdeal.main_arg1) = m' ((c.tc : Thread Cert.XbcReferenceIdeal.nD Cert.XbcReferenceIdeal.τ).loc Cert.XbcReferenceIdeal.main_arg1)
          ∧ r.2.mem ((c.tc : Thread Cert.XbcReferenceIdeal.nD Cert.XbcReferenceIdeal.τ).loc Cert.XbcReferenceIdeal.main_arg2) = m' ((c.tc : Thread Cert.XbcReferenceIdeal.nD Cert.XbcReferenceIdeal.τ).loc Cert.XbcReferenceIdeal.main_arg2)
          ∧ r.2.mem ((c.tc : Thread Cert.XbcReferenceIdeal.nD Cert.XbcReferenceIdeal.τ).loc Cert.XbcReferenceIdeal.main_arg3) = m' ((c.tc : Thread Cert.XbcReferenceIdeal.nD Cert.XbcReferenceIdeal.τ).loc Cert.XbcReferenceIdeal.main_arg3))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v52)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v52) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v138) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hGates : Cert.Gates.Facts) (hGatesIdeal : Cert.GatesIdeal.Facts) (hGatesReferenceIdeal : Cert.GatesReferenceIdeal.Facts) (hXbc : Cert.Xbc.Facts) (hXbcIdeal : Cert.XbcIdeal.Facts) (hXbcReferenceIdeal : Cert.XbcReferenceIdeal.Facts) (hQkv : Cert.Qkv.Facts) (hQkvIdeal : Cert.QkvIdeal.Facts) (hQkvReferenceIdeal : Cert.QkvReferenceIdeal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Xbc (hXbc := hXbc)
    ∧ quiescent_XbcIdeal (hXbcIdeal := hXbcIdeal)
    ∧ quiescent_XbcReferenceIdeal (hXbcReferenceIdeal := hXbcReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_Gates_GatesIdeal
    ∧ algebraic_GatesIdeal_GatesReferenceIdeal (hGatesIdeal := hGatesIdeal) (hGatesReferenceIdeal := hGatesReferenceIdeal)
    ∧ preserves_Xbc_XbcIdeal
    ∧ algebraic_XbcIdeal_XbcReferenceIdeal (hXbcIdeal := hXbcIdeal) (hXbcReferenceIdeal := hXbcReferenceIdeal)
    ∧ preserves_Qkv_QkvIdeal
    ∧ algebraic_QkvIdeal_QkvReferenceIdeal (hQkvIdeal := hQkvIdeal) (hQkvReferenceIdeal := hQkvReferenceIdeal)
-- ==== Pre_logits_finite.lean ====
abbrev S2x8192x16x64 : Shape := ⟨4, ![2, 8192, 16, 64]⟩
abbrev S2x8192x4x64 : Shape := ⟨4, ![2, 8192, 4, 64]⟩
abbrev S2x256x4x64 : Shape := ⟨4, ![2, 256, 4, 64]⟩
abbrev S16 : Shape := ⟨1, ![16]⟩
abbrev S_ : Shape := ⟨0, ![]⟩

class Facts : Prop where
  bcast_S_S2x8192x16x64 : S_.BroadcastsInDim S2x8192x16x64 (![] : Fin 0 → Fin S2x8192x16x64.rank)
  bcast_S_S2x8192x4x64 : S_.BroadcastsInDim S2x8192x4x64 (![] : Fin 0 → Fin S2x8192x4x64.rank)
  bcast_S_S2x256x4x64 : S_.BroadcastsInDim S2x256x4x64 (![] : Fin 0 → Fin S2x256x4x64.rank)
  bcast_S_S16 : S_.BroadcastsInDim S16 (![] : Fin 0 → Fin S16.rank)

variable [Facts]

def fn {F : FTy → Type} [FloatOps F] (main_arg0 : FVec F S2x8192x16x64 .f32) (main_arg1 : FVec F S2x8192x4x64 .f32) (main_arg2 : FVec F S2x8192x4x64 .f32) (main_arg3 : FVec F S2x256x4x64 .f32) (main_arg4 : FVec F S2x256x4x64 .f32) (main_arg5 : FVec F S16 .f32) : IVec S2x8192x16x64 1 × IVec S2x8192x4x64 1 × IVec S2x256x4x64 1 × IVec S16 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_v3 : FVec F S2x8192x4x64 .f32 := Host.absf main_arg1
  let main_cst_0 : FVec F S_ .f32 := constant S_ .f32 0x7F800000#32
  let main_v4 : FVec F S2x8192x4x64 .f32 := broadcastInDim S2x8192x4x64 ![] bcast_S_S2x8192x4x64 main_cst_0
  let main_v5 : IVec S2x8192x4x64 1 := cmpf .olt main_v3 main_v4
  let main_v6 : FVec F S2x256x4x64 .f32 := Host.absf main_arg3
  let main_cst_1 : FVec F S_ .f32 := constant S_ .f32 0x7F800000#32
  let main_v7 : FVec F S2x256x4x64 .f32 := broadcastInDim S2x256x4x64 ![] bcast_S_S2x256x4x64 main_cst_1
  let main_v8 : IVec S2x256x4x64 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S2x8192x16x64 : Shape := ⟨4, ![2, 8192, 16, 64]⟩
abbrev S2x8192x4x64 : Shape := ⟨4, ![2, 8192, 4, 64]⟩
abbrev S2x256x4x64 : Shape := ⟨4, ![2, 256, 4, 64]⟩
abbrev S16 : Shape := ⟨1, ![16]⟩
abbrev S_ : Shape := ⟨0, ![]⟩
abbrev S2x8192x1024 : Shape := ⟨3, ![2, 8192, 1024]⟩
abbrev S2x8192x256 : Shape := ⟨3, ![2, 8192, 256]⟩
abbrev S2x8192x1536 : Shape := ⟨3, ![2, 8192, 1536]⟩
abbrev S2x256x1024 : Shape := ⟨3, ![2, 256, 1024]⟩
abbrev S2x256x256 : Shape := ⟨3, ![2, 256, 256]⟩
abbrev S2x256x1536 : Shape := ⟨3, ![2, 256, 1536]⟩
abbrev S1x16 : Shape := ⟨2, ![1, 16]⟩
abbrev S1x128x1024 : Shape := ⟨3, ![1, 128, 1024]⟩
abbrev S1x128x512 : Shape := ⟨3, ![1, 128, 512]⟩
abbrev S1x256x512 : Shape := ⟨3, ![1, 256, 512]⟩
abbrev S512x640 : Shape := ⟨2, ![512, 640]⟩
abbrev S512x1 : Shape := ⟨2, ![512, 1]⟩
abbrev S128x1024 : Shape := ⟨2, ![128, 1024]⟩
abbrev S128x64 : Shape := ⟨2, ![128, 64]⟩
abbrev S512x64 : Shape := ⟨2, ![512, 64]⟩
abbrev S1x128x64 : Shape := ⟨3, ![1, 128, 64]⟩
abbrev S1x256x64 : Shape := ⟨3, ![1, 256, 64]⟩
abbrev S256x64 : Shape := ⟨2, ![256, 64]⟩
abbrev S640x64 : Shape := ⟨2, ![640, 64]⟩
abbrev S1x1 : Shape := ⟨2, ![1, 1]⟩
abbrev S512 : Shape := ⟨1, ![512]⟩
abbrev S128x256 : Shape := ⟨2, ![128, 256]⟩
abbrev S1x128x256 : Shape := ⟨3, ![1, 128, 256]⟩

abbrev nBuf : Space → Nat
  | .hbm => 25
  | .vmem => 12
  | .smem => 1
  | _ => 0

abbrev bufTy : (tb : Table) → Fin (tcTables nBuf tb) → BufTy
  | .hbm, ⟨0, _⟩ => ⟨S2x8192x16x64, .f32⟩
  | .hbm, ⟨1, _⟩ => ⟨S2x8192x4x64, .f32⟩
  | .hbm, ⟨2, _⟩ => ⟨S2x8192x4x64, .f32⟩
  | .hbm, ⟨3, _⟩ => ⟨S2x256x4x64, .f32⟩
  | .hbm, ⟨4, _⟩ => ⟨S2x256x4x64, .f32⟩
  | .hbm, ⟨5, _⟩ => ⟨S16, .f32⟩
  | .hbm, ⟨6, _⟩ => ⟨S_, .f32⟩
  | .hbm, ⟨7, _⟩ => ⟨S2x8192x16x64, .f32⟩
  | .hbm, ⟨8, _⟩ => ⟨S2x8192x16x64, .f32⟩
  | .hbm, ⟨9, _⟩ => ⟨S2x8192x16x64, .bf16⟩
  | .hbm, ⟨10, _⟩ => ⟨S2x8192x1024, .bf16⟩
  | .hbm, ⟨11, _⟩ => ⟨S2x8192x4x64, .bf16⟩
  | .hbm, ⟨12, _⟩ => ⟨S2x8192x256, .bf16⟩
  | .hbm, ⟨13, _⟩ => ⟨S2x8192x4x64, .bf16⟩
  | .hbm, ⟨14, _⟩ => ⟨S2x8192x256, .bf16⟩
  | .hbm, ⟨15, _⟩ => ⟨S2x8192x1536, .bf16⟩
  | .hbm, ⟨16, _⟩ => ⟨S_, .bf16⟩
  | .hbm, ⟨17, _⟩ => ⟨S2x256x1024, .bf16⟩
  | .hbm, ⟨18, _⟩ => ⟨S2x256x4x64, .bf16⟩
  | .hbm, ⟨19, _⟩ => ⟨S2x256x256, .bf16⟩
  | .hbm, ⟨20, _⟩ => ⟨S2x256x4x64, .bf16⟩
  | .hbm, ⟨21, _⟩ => ⟨S2x256x256, .bf16⟩
  | .hbm, ⟨22, _⟩ => ⟨S2x256x1536, .bf16⟩
  | .hbm, ⟨23, _⟩ => ⟨S1x16, .f32⟩
  | .hbm, ⟨24, _⟩ => ⟨S2x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x128x1024, .bf16⟩
  | .local _ .vmem, ⟨11, _⟩ => ⟨S1x128x1024, .bf16⟩
  | .local _ .smem, ⟨0, _⟩ => ⟨S1x16, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c2_i32 : BitVec 32 := 2#32
  let c0_i32 : BitVec 32 := 0#32
  ![arg0.toNat, v1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x8192x16x64 : Shape := ⟨4, ![2, 8192, 16, 64]⟩
abbrev S2x8192x4x64 : Shape := ⟨4, ![2, 8192, 4, 64]⟩
abbrev S2x256x4x64 : Shape := ⟨4, ![2, 256, 4, 64]⟩
abbrev S16 : Shape := ⟨1, ![16]⟩
abbrev S2x64x128x4x4x64 : Shape := ⟨6, ![2, 64, 128, 4, 4, 64]⟩
abbrev S2x64x128x4x64 : Shape := ⟨5, ![2, 64, 128, 4, 64]⟩
abbrev S_ : Shape := ⟨0, ![]⟩
abbrev S2x66x128x4x64 : Shape := ⟨5, ![2, 66, 128, 4, 64]⟩
abbrev S2x64x384x4x64 : Shape := ⟨5, ![2, 64, 384, 4, 64]⟩
abbrev S2x64x4x384x128x4 : Shape := ⟨6, ![2, 64, 4, 384, 128, 4]⟩
abbrev S2x64x4x4x128x384 : Shape := ⟨6, ![2, 64, 4, 4, 128, 384]⟩
abbrev S2x4x256x64x128x4 : Shape := ⟨6, ![2, 4, 256, 64, 128, 4]⟩
abbrev S2x64x4x4x128x256 : Shape := ⟨6, ![2, 64, 4, 4, 128, 256]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x4x4x1x1 : Shape := ⟨6, ![1, 1, 4, 4, 1, 1]⟩
abbrev S2x64x4x4x128x1 : Shape := ⟨6, ![2, 64, 4, 4, 128, 1]⟩
abbrev S2x64x4x4x128x641 : Shape := ⟨6, ![2, 64, 4, 4, 128, 641]⟩
abbrev S2x64x4x4x128 : Shape := ⟨5, ![2, 64, 4, 4, 128]⟩
abbrev S2x64x4x64x4x128 : Shape := ⟨6, ![2, 64, 4, 64, 4, 128]⟩
abbrev S2x4x64x64x4x128 : Shape := ⟨6, ![2, 4, 64, 64, 4, 128]⟩
abbrev S2x8192x1024 : Shape := ⟨3, ![2, 8192, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x4x64, .f32⟩
  | .hbm, ⟨2, _⟩ => ⟨S2x8192x4x64, .f32⟩
  | .hbm, ⟨3, _⟩ => ⟨S2x256x4x64, .f32⟩
  | .hbm, ⟨4, _⟩ => ⟨S2x256x4x64, .f32⟩
  | .hbm, ⟨5, _⟩ => ⟨S16, .f32⟩
  | .hbm, ⟨6, _⟩ => ⟨S2x64x128x4x4x64, .f32⟩
  | .hbm, ⟨7, _⟩ => ⟨S2x64x128x4x64, .f32⟩
  | .hbm, ⟨8, _⟩ => ⟨S_, .i32⟩
  | .hbm, ⟨9, _⟩ => ⟨S_, .f32⟩
  | .hbm, ⟨10, _⟩ => ⟨S2x66x128x4x64, .f32⟩
  | .hbm, ⟨11, _⟩ => ⟨S2x64x128x4x64, .f32⟩
  | .hbm, ⟨12, _⟩ => ⟨S2x64x128x4x64, .f32⟩
  | .hbm, ⟨13, _⟩ => ⟨S2x64x128x4x64, .f32⟩
  | .hbm, ⟨14, _⟩ => ⟨S2x64x384x4x64, .f32⟩
  | .hbm, ⟨15, _⟩ => ⟨S2x64x128x4x64, .f32⟩
  | .hbm, ⟨16, _⟩ => ⟨S_, .i32⟩
  | .hbm, ⟨17, _⟩ => ⟨S_, .f32⟩
  | .hbm, ⟨18, _⟩ => ⟨S2x66x128x4x64, .f32⟩
  | .hbm, ⟨19, _⟩ => ⟨S2x64x128x4x64, .f32⟩
  | .hbm, ⟨20, _⟩ => ⟨S2x64x128x4x64, .f32⟩
  | .hbm, ⟨21, _⟩ => ⟨S2x64x128x4x64, .f32⟩
  | .hbm, ⟨22, _⟩ => ⟨S2x64x384x4x64, .f32⟩
  | .hbm, ⟨23, _⟩ => ⟨S2x64x4x384x128x4, .f32⟩
  | .hbm, ⟨24, _⟩ => ⟨S2x64x4x4x128x384, .f32⟩
  | .hbm, ⟨25, _⟩ => ⟨S_, .f32⟩
  | .hbm, ⟨26, _⟩ => ⟨S2x64x4x4x128x384, .f32⟩
  | .hbm, ⟨27, _⟩ => ⟨S2x64x4x4x128x384, .f32⟩
  | .hbm, ⟨28, _⟩ => ⟨S2x4x256x64x128x4, .f32⟩
  | .hbm, ⟨29, _⟩ => ⟨S2x64x4x4x128x256, .f32⟩
  | .hbm, ⟨30, _⟩ => ⟨S_, .f32⟩
  | .hbm, ⟨31, _⟩ => ⟨S2x64x4x4x128x256, .f32⟩
  | .hbm, ⟨32, _⟩ => ⟨S2x64x4x4x128x256, .f32⟩
  | .hbm, ⟨33, _⟩ => ⟨S64, .i32⟩
  | .hbm, ⟨34, _⟩ => ⟨S64x1, .i32⟩
  | .hbm, ⟨35, _⟩ => ⟨S_, .i32⟩
  | .hbm, ⟨36, _⟩ => ⟨S64x1, .i32⟩
  | .hbm, ⟨37, _⟩ => ⟨S64x1, .i32⟩
  | .hbm, ⟨38, _⟩ => ⟨S128, .i32⟩
  | .hbm, ⟨39, _⟩ => ⟨S1x128, .i32⟩
  | .hbm, ⟨40, _⟩ => ⟨S64x128, .i32⟩
  | .hbm, ⟨41, _⟩ => ⟨S64x128, .i32⟩
  | .hbm, ⟨42, _⟩ => ⟨S64x128, .i32⟩
  | .hbm, ⟨43, _⟩ => ⟨S64, .i32⟩
  | .hbm, ⟨44, _⟩ => ⟨S64x1, .i32⟩
  | .hbm, ⟨45, _⟩ => ⟨S_, .i32⟩
  | .hbm, ⟨46, _⟩ => ⟨S64x1, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S384, .i32⟩
  | .hbm, ⟨52, _⟩ => ⟨S1x384, .i32⟩
  | .hbm, ⟨53, _⟩ => ⟨S64x384, .i32⟩
  | .hbm, ⟨54, _⟩ => ⟨S64x384, .i32⟩
  | .hbm, ⟨55, _⟩ => ⟨S64x384, .i32⟩
  | .hbm, ⟨56, _⟩ => ⟨S64x128x1, .i32⟩
  | .hbm, ⟨57, _⟩ => ⟨S64x1x384, .i32⟩
  | .hbm, ⟨58, _⟩ => ⟨S64x128x384, .i32⟩
  | .hbm, ⟨59, _⟩ => ⟨S64x128x384, .i32⟩
  | .hbm, ⟨60, _⟩ => ⟨S64x128x384, .i32⟩
  | .hbm, ⟨61, _⟩ => ⟨S64x128x384, .i32⟩
  | .hbm, ⟨62, _⟩ => ⟨S_, .i32⟩
  | .hbm, ⟨63, _⟩ => ⟨S64x128x384, .i32⟩
  | .hbm, ⟨64, _⟩ => ⟨S64x128x384, .i1⟩
  | .hbm, ⟨65, _⟩ => ⟨S_, .i32⟩
  | .hbm, ⟨66, _⟩ => ⟨S64x384, .i32⟩
  | .hbm, ⟨67, _⟩ => ⟨S64x384, .i1⟩
  | .hbm, ⟨68, _⟩ => ⟨S64x1x384, .i1⟩
  | .hbm, ⟨69, _⟩ => ⟨S64x128x384, .i1⟩
  | .hbm, ⟨70, _⟩ => ⟨S64x128x384, .i1⟩
  | .hbm, ⟨71, _⟩ => ⟨S_, .i32⟩
  | .hbm, ⟨72, _⟩ => ⟨S64x384, .i32⟩
  | .hbm, ⟨73, _⟩ => ⟨S64x384, .i1⟩
  | .hbm, ⟨74, _⟩ => ⟨S64x1x384, .i1⟩
  | .hbm, ⟨75, _⟩ => ⟨S64x128x384, .i1⟩
  | .hbm, ⟨76, _⟩ => ⟨S64x128x384, .i1⟩
  | .hbm, ⟨77, _⟩ => ⟨S1x64x1x1x128x384, .i1⟩
  | .hbm, ⟨78, _⟩ => ⟨S_, .f32⟩
  | .hbm, ⟨79, _⟩ => ⟨S_, .f32⟩
  | .hbm, ⟨80, _⟩ => ⟨S2x64x4x4x128x384, .i1⟩
  | .hbm, ⟨81, _⟩ => ⟨S2x64x4x4x128x384, .f32⟩
  | .hbm, ⟨82, _⟩ => ⟨S2x64x4x4x128x384, .f32⟩
  | .hbm, ⟨83, _⟩ => ⟨S1x1x4x4x1x1, .f32⟩
  | .hbm, ⟨84, _⟩ => ⟨S2x64x4x4x128x1, .f32⟩
  | .hbm, ⟨85, _⟩ => ⟨S2x64x4x4x128x641, .f32⟩
  | .hbm, ⟨86, _⟩ => ⟨S_, .f32⟩
  | .hbm, ⟨87, _⟩ => ⟨S2x64x4x4x128, .f32⟩
  | .hbm, ⟨88, _⟩ => ⟨S_, .f32⟩
  | .hbm, ⟨89, _⟩ => ⟨S2x64x4x4x128, .f32⟩
  | .hbm, ⟨90, _⟩ => ⟨S2x64x4x4x128, .f32⟩
  | .hbm, ⟨91, _⟩ => ⟨S2x64x4x4x128x1, .f32⟩
  | .hbm, ⟨92, _⟩ => ⟨S2x64x4x4x128x641, .f32⟩
  | .hbm, ⟨93, _⟩ => ⟨S2x64x4x4x128x641, .f32⟩
  | .hbm, ⟨94, _⟩ => ⟨S2x64x4x4x128x641, .f32⟩
  | .hbm, ⟨95, _⟩ => ⟨S_, .f32⟩
  | .hbm, ⟨96, _⟩ => ⟨S2x64x4x4x128, .f32⟩
  | .hbm, ⟨97, _⟩ => ⟨S2x64x4x4x128x1, .f32⟩
  | .hbm, ⟨98, _⟩ => ⟨S2x64x4x4x128x641, .f32⟩
  | .hbm, ⟨99, _⟩ => ⟨S2x64x4x4x128x641, .f32⟩
  | .hbm, ⟨100, _⟩ => ⟨S2x64x4x4x128x384, .f32⟩
  | .hbm, ⟨101, _⟩ => ⟨S2x64x4x64x4x128, .f32⟩
  | .hbm, ⟨102, _⟩ => ⟨S2x64x128x4x4x64, .f32⟩
  | .hbm, ⟨103, _⟩ => ⟨S2x64x4x4x128x256, .f32⟩
  | .hbm, ⟨104, _⟩ => ⟨S2x4x64x64x4x128, .f32⟩
  | .hbm, ⟨105, _⟩ => ⟨S2x64x128x4x4x64, .f32⟩
  | .hbm, ⟨106, _⟩ => ⟨S2x64x128x4x4x64, .f32⟩
  | .hbm, ⟨107, _⟩ => ⟨S2x8192x1024, .f32⟩
  | .hbm, ⟨108, _⟩ => ⟨S2x8192x1024, .bf16⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Ffn.lean ====
abbrev S2x8192x1024 : Shape := ⟨3, ![2, 8192, 1024]⟩
abbrev S2x1x1024 : Shape := ⟨3, ![2, 1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S512x2816 : Shape := ⟨2, ![512, 2816]⟩
abbrev S16x1024 : Shape := ⟨2, ![16, 1024]⟩
abbrev S512x1024 : Shape := ⟨2, ![512, 1024]⟩
abbrev S1024x256 : Shape := ⟨2, ![1024, 256]⟩
abbrev S544x256 : Shape := ⟨2, ![544, 256]⟩
abbrev S3x256 : Shape := ⟨2, ![3, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S2x8192x1024, .bf16⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S2x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S544x1024, .bf16⟩
  | .local _ .vmem, ⟨18, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnReferenceIdeal.lean ====
abbrev S2x8192x1024 : Shape := ⟨3, ![2, 8192, 1024]⟩
abbrev S2x1x1024 : Shape := ⟨3, ![2, 1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8192x5632 : Shape := ⟨3, ![2, 8192, 5632]⟩
abbrev S_ : Shape := ⟨0, ![]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1x1024x5632, .f32⟩
  | .hbm, ⟨4, _⟩ => ⟨S1x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S2x8192x5632, .f32⟩
  | .hbm, ⟨13, _⟩ => ⟨S_, .i32⟩
  | .hbm, ⟨14, _⟩ => ⟨S_, .f32⟩
  | .hbm, ⟨15, _⟩ => ⟨S2x8194x5632, .f32⟩
  | .hbm, ⟨16, _⟩ => ⟨S2x8192x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S2x8192x5632, .f32⟩
  | .hbm, ⟨21, _⟩ => ⟨S2x8192x5632, .f32⟩
  | .hbm, ⟨22, _⟩ => ⟨S2x8192x5632, .f32⟩
  | .hbm, ⟨23, _⟩ => ⟨S1x5632, .f32⟩
  | .hbm, ⟨24, _⟩ => ⟨S5632, .f32⟩
  | .hbm, ⟨25, _⟩ => ⟨S1x1x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S1x1x5632, .f32⟩
  | .hbm, ⟨37, _⟩ => ⟨S2x8192x5632, .f32⟩
  | .hbm, ⟨38, _⟩ => ⟨S2x8192x5632, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_0 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Merge.lean ====
abbrev S2x8192x2048 : Shape := ⟨3, ![2, 8192, 2048]⟩
abbrev S2x8192x1024 : Shape := ⟨3, ![2, 8192, 1024]⟩
abbrev S1x2048x1024 : Shape := ⟨3, ![1, 2048, 1024]⟩
abbrev S1x1024x1024 : Shape := ⟨3, ![1, 1024, 1024]⟩
abbrev S2x1x1024 : Shape := ⟨3, ![2, 1, 1024]⟩
abbrev S1x1024 : Shape := ⟨2, ![1, 1024]⟩
abbrev S_ : Shape := ⟨0, ![]⟩
abbrev S2x8192x4096 : Shape := ⟨3, ![2, 8192, 4096]⟩
abbrev S2048x1024 : Shape := ⟨2, ![2048, 1024]⟩
abbrev S1024x1024 : Shape := ⟨2, ![1024, 1024]⟩
abbrev S1024 : Shape := ⟨1, ![1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 22
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x2048, .f32⟩
  | .hbm, ⟨3, _⟩ => ⟨S2x8192x1024, .f32⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .hbm, ⟨11, _⟩ => ⟨S_, .bf16⟩
  | .hbm, ⟨12, _⟩ => ⟨S2x8192x2048, .bf16⟩
  | .hbm, ⟨13, _⟩ => ⟨S2x8192x2048, .bf16⟩
  | .hbm, ⟨14, _⟩ => ⟨S2x8192x4096, .bf16⟩
  | .hbm, ⟨15, _⟩ => ⟨S2x8192x2048, .bf16⟩
  | .hbm, ⟨16, _⟩ => ⟨S2x8192x1024, .bf16⟩
  | .hbm, ⟨17, _⟩ => ⟨S2048x1024, .f32⟩
  | .hbm, ⟨18, _⟩ => ⟨S2048x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S2x8192x1024, .f32⟩
  | .hbm, ⟨26, _⟩ => ⟨S2x8192x1024, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x1024, .f32⟩
  | .local _ .vmem, ⟨7, _⟩ => ⟨S1x512x1024, .f32⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S2x8192x2048 : Shape := ⟨3, ![2, 8192, 2048]⟩
abbrev S2x8192x1024 : Shape := ⟨3, ![2, 8192, 1024]⟩
abbrev S1x2048x1024 : Shape := ⟨3, ![1, 2048, 1024]⟩
abbrev S1x1024x1024 : Shape := ⟨3, ![1, 1024, 1024]⟩
abbrev S2x1x1024 : Shape := ⟨3, ![2, 1, 1024]⟩
abbrev S1x1024 : Shape := ⟨2, ![1, 1024]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192x1024, .f32⟩
  | .hbm, ⟨2, _⟩ => ⟨S2x8192x2048, .f32⟩
  | .hbm, ⟨3, _⟩ => ⟨S2x8192x1024, .f32⟩
  | .hbm, ⟨4, _⟩ => ⟨S1x2048x1024, .f32⟩
  | .hbm, ⟨5, _⟩ => ⟨S1x1024x1024, .f32⟩
  | .hbm, ⟨6, _⟩ => ⟨S1x1024x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S2x8192x1024, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Gates.lean ====
abbrev S2x8192x1024 : Shape := ⟨3, ![2, 8192, 1024]⟩
abbrev S1x1024x8768 : Shape := ⟨3, ![1, 1024, 8768]⟩
abbrev S1024x8768 : Shape := ⟨2, ![1024, 8768]⟩
abbrev S1024x2048 : Shape := ⟨2, ![1024, 2048]⟩
abbrev S1024x4096 : Shape := ⟨2, ![1024, 4096]⟩
abbrev S2x8192x4096 : Shape := ⟨3, ![2, 8192, 4096]⟩
abbrev S1x1024x1024 : Shape := ⟨3, ![1, 1024, 1024]⟩
abbrev S1x1024x4096 : Shape := ⟨3, ![1, 1024, 4096]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 9
  | .vmem => 5
  | .smem => 0
  | _ => 0

abbrev bufTy : (tb : Table) → Fin (tcTables nBuf tb) → BufTy
  | .hbm, ⟨0, _⟩ => ⟨S2x8192x1024, .f32⟩
  | .hbm, ⟨1, _⟩ => ⟨S1x1024x8768, .f32⟩
  | .hbm, ⟨2, _⟩ => ⟨S1024x8768, .f32⟩
  | .hbm, ⟨3, _⟩ => ⟨S1024x2048, .f32⟩
  | .hbm, ⟨4, _⟩ => ⟨S1024x2048, .f32⟩
  | .hbm, ⟨5, _⟩ => ⟨S1024x4096, .f32⟩
  | .hbm, ⟨6, _⟩ => ⟨S1024x4096, .bf16⟩
  | .hbm, ⟨7, _⟩ => ⟨S2x8192x1024, .bf16⟩
  | .hbm, ⟨8, _⟩ => ⟨S2x8192x4096, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x4096, .bf16⟩
  | .local _ .vmem, ⟨3, _⟩ => ⟨S1x1024x4096, .bf16⟩
  | .local _ .vmem, ⟨4, _⟩ => ⟨S1x1024x4096, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S2x8192x1024 : Shape := ⟨3, ![2, 8192, 1024]⟩
abbrev S1x1024x8768 : Shape := ⟨3, ![1, 1024, 8768]⟩
abbrev S1024x8768 : Shape := ⟨2, ![1024, 8768]⟩
abbrev S2x8192x8768 : Shape := ⟨3, ![2, 8192, 8768]⟩
abbrev S2x8192x2048 : Shape := ⟨3, ![2, 8192, 2048]⟩
abbrev S_ : Shape := ⟨0, ![]⟩
abbrev S2x8192x4096 : Shape := ⟨3, ![2, 8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x8768, .f32⟩
  | .hbm, ⟨2, _⟩ => ⟨S1024x8768, .f32⟩
  | .hbm, ⟨3, _⟩ => ⟨S2x8192x8768, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S_, .f32⟩
  | .hbm, ⟨8, _⟩ => ⟨S2x8192x2048, .f32⟩
  | .hbm, ⟨9, _⟩ => ⟨S2x8192x2048, .f32⟩
  | .hbm, ⟨10, _⟩ => ⟨S_, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192x2048, .f32⟩
  | .hbm, ⟨19, _⟩ => ⟨S2x8192x2048, .f32⟩
  | .hbm, ⟨20, _⟩ => ⟨S_, .f32⟩
  | .hbm, ⟨21, _⟩ => ⟨S2x8192x2048, .f32⟩
  | .hbm, ⟨22, _⟩ => ⟨S2x8192x2048, .f32⟩
  | .hbm, ⟨23, _⟩ => ⟨S2x8192x4096, .f32⟩
  | .hbm, ⟨24, _⟩ => ⟨S2x8192x4096, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Xbc.lean ====
abbrev S2x8192x1024 : Shape := ⟨3, ![2, 8192, 1024]⟩
abbrev S1x1024x8768 : Shape := ⟨3, ![1, 1024, 8768]⟩
abbrev S1x3x3072 : Shape := ⟨3, ![1, 3, 3072]⟩
abbrev S1x3072 : Shape := ⟨2, ![1, 3072]⟩
abbrev S1024x8768 : Shape := ⟨2, ![1024, 8768]⟩
abbrev S1024x3072 : Shape := ⟨2, ![1024, 3072]⟩
abbrev S3x3072 : Shape := ⟨2, ![3, 3072]⟩
abbrev S3072 : Shape := ⟨1, ![3072]⟩
abbrev S2x8192x3072 : Shape := ⟨3, ![2, 8192, 3072]⟩
abbrev S1x1024x1024 : Shape := ⟨3, ![1, 1024, 1024]⟩
abbrev S1x16x1024 : Shape := ⟨3, ![1, 16, 1024]⟩
abbrev S1x1024x3072 : Shape := ⟨3, ![1, 1024, 3072]⟩
abbrev S1056x1024 : Shape := ⟨2, ![1056, 1024]⟩
abbrev S16x1024 : Shape := ⟨2, ![16, 1024]⟩
abbrev S1024x1024 : Shape := ⟨2, ![1024, 1024]⟩
abbrev S1024x256 : Shape := ⟨2, ![1024, 256]⟩
abbrev S1056x256 : Shape := ⟨2, ![1056, 256]⟩
abbrev S3x256 : Shape := ⟨2, ![3, 256]⟩
abbrev S1x256 : Shape := ⟨2, ![1, 256]⟩
abbrev S1x1024x256 : Shape := ⟨3, ![1, 1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1x1024x8768, .f32⟩
  | .hbm, ⟨2, _⟩ => ⟨S1x3x3072, .f32⟩
  | .hbm, ⟨3, _⟩ => ⟨S1x3072, .f32⟩
  | .hbm, ⟨4, _⟩ => ⟨S1024x8768, .f32⟩
  | .hbm, ⟨5, _⟩ => ⟨S2x8192x1024, .bf16⟩
  | .hbm, ⟨6, _⟩ => ⟨S1024x3072, .f32⟩
  | .hbm, ⟨7, _⟩ => ⟨S1024x3072, .bf16⟩
  | .hbm, ⟨8, _⟩ => ⟨S3x3072, .f32⟩
  | .hbm, ⟨9, _⟩ => ⟨S3072, .f32⟩
  | .hbm, ⟨10, _⟩ => ⟨S1x3072, .f32⟩
  | .hbm, ⟨11, _⟩ => ⟨S2x8192x3072, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1024x3072, .bf16⟩
  | .local _ .vmem, ⟨7, _⟩ => ⟨S3x3072, .f32⟩
  | .local _ .vmem, ⟨8, _⟩ => ⟨S1x3072, .f32⟩
  | .local _ .vmem, ⟨9, _⟩ => ⟨S1x1024x3072, .bf16⟩
  | .local _ .vmem, ⟨10, _⟩ => ⟨S1x1024x3072, .bf16⟩
  | .local _ .vmem, ⟨11, _⟩ => ⟨S1056x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XbcReferenceIdeal.lean ====
abbrev S2x8192x1024 : Shape := ⟨3, ![2, 8192, 1024]⟩
abbrev S1x1024x8768 : Shape := ⟨3, ![1, 1024, 8768]⟩
abbrev S1x3x3072 : Shape := ⟨3, ![1, 3, 3072]⟩
abbrev S1x3072 : Shape := ⟨2, ![1, 3072]⟩
abbrev S1024x8768 : Shape := ⟨2, ![1024, 8768]⟩
abbrev S2x8192x8768 : Shape := ⟨3, ![2, 8192, 8768]⟩
abbrev S2x8192x3072 : Shape := ⟨3, ![2, 8192, 3072]⟩
abbrev S3x3072 : Shape := ⟨2, ![3, 3072]⟩
abbrev S3072 : Shape := ⟨1, ![3072]⟩
abbrev S_ : Shape := ⟨0, ![]⟩
abbrev S2x8194x3072 : Shape := ⟨3, ![2, 8194, 3072]⟩
abbrev S1x1x3072 : Shape := ⟨3, ![1, 1, 3072]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x8768, .f32⟩
  | .hbm, ⟨2, _⟩ => ⟨S1x3x3072, .f32⟩
  | .hbm, ⟨3, _⟩ => ⟨S1x3072, .f32⟩
  | .hbm, ⟨4, _⟩ => ⟨S1024x8768, .f32⟩
  | .hbm, ⟨5, _⟩ => ⟨S2x8192x8768, .f32⟩
  | .hbm, ⟨6, _⟩ => ⟨S2x8192x3072, .f32⟩
  | .hbm, ⟨7, _⟩ => ⟨S3x3072, .f32⟩
  | .hbm, ⟨8, _⟩ => ⟨S3072, .f32⟩
  | .hbm, ⟨9, _⟩ => ⟨S_, .i32⟩
  | .hbm, ⟨10, _⟩ => ⟨S_, .f32⟩
  | .hbm, ⟨11, _⟩ => ⟨S2x8194x3072, .f32⟩
  | .hbm, ⟨12, _⟩ => ⟨S2x8192x3072, .f32⟩
  | .hbm, ⟨13, _⟩ => ⟨S1x3072, .f32⟩
  | .hbm, ⟨14, _⟩ => ⟨S3072, .f32⟩
  | .hbm, ⟨15, _⟩ => ⟨S1x1x3072, .f32⟩
  | .hbm, ⟨16, _⟩ => ⟨S2x8192x3072, .f32⟩
  | .hbm, ⟨17, _⟩ => ⟨S2x8192x3072, .f32⟩
  | .hbm, ⟨18, _⟩ => ⟨S2x8192x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S2x8192x3072, .f32⟩
  | .hbm, ⟨23, _⟩ => ⟨S2x8192x3072, .f32⟩
  | .hbm, ⟨24, _⟩ => ⟨S2x8192x3072, .f32⟩
  | .hbm, ⟨25, _⟩ => ⟨S2x8192x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S2x8192x3072, .f32⟩
  | .hbm, ⟨30, _⟩ => ⟨S2x8192x3072, .f32⟩
  | .hbm, ⟨31, _⟩ => ⟨S2x8192x3072, .f32⟩
  | .hbm, ⟨32, _⟩ => ⟨S1x1x3072, .f32⟩
  | .hbm, ⟨33, _⟩ => ⟨S2x8192x3072, .f32⟩
  | .hbm, ⟨34, _⟩ => ⟨S2x8192x3072, .f32⟩
  | .hbm, ⟨35, _⟩ => ⟨S2x8192x3072, .f32⟩
  | .hbm, ⟨36, _⟩ => ⟨S2x8192x3072, .f32⟩
  | .hbm, ⟨37, _⟩ => ⟨S_, .f32⟩
  | .hbm, ⟨38, _⟩ => ⟨S2x8192x3072, .f32⟩
  | .hbm, ⟨39, _⟩ => ⟨S2x8192x3072, .f32⟩
  | .hbm, ⟨40, _⟩ => ⟨S_, .f32⟩
  | .hbm, ⟨41, _⟩ => ⟨S2x8192x3072, .f32⟩
  | .hbm, ⟨42, _⟩ => ⟨S2x8192x3072, .f32⟩
  | .hbm, ⟨43, _⟩ => ⟨S2x8192x3072, .f32⟩
  | .hbm, ⟨44, _⟩ => ⟨S2x8192x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Qkv.lean ====
abbrev S2x8192x1024 : Shape := ⟨3, ![2, 8192, 1024]⟩
abbrev S1x1024x8768 : Shape := ⟨3, ![1, 1024, 8768]⟩
abbrev S1024x8768 : Shape := ⟨2, ![1024, 8768]⟩
abbrev S16 : Shape := ⟨1, ![16]⟩
abbrev S_ : Shape := ⟨0, ![]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S64 : Shape := ⟨1, ![64]⟩
abbrev S1x64 : Shape := ⟨2, ![1, 64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024x1536 : Shape := ⟨2, ![1024, 1536]⟩
abbrev S2x8192x1536 : Shape := ⟨3, ![2, 8192, 1536]⟩
abbrev S1x1024x1024 : Shape := ⟨3, ![1, 1024, 1024]⟩
abbrev S1024x128 : Shape := ⟨2, ![1024, 128]⟩
abbrev S1x1024x1536 : Shape := ⟨3, ![1, 1024, 1536]⟩
abbrev S1024x1024 : Shape := ⟨2, ![1024, 1024]⟩
abbrev S1024x256 : Shape := ⟨2, ![1024, 256]⟩
abbrev S1x1024x128 : Shape := ⟨3, ![1, 1024, 128]⟩

abbrev nBuf : Space → Nat
  | .hbm => 59
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024x8768, .f32⟩
  | .hbm, ⟨2, _⟩ => ⟨S1024x8768, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S128, .i32⟩
  | .hbm, ⟨18, _⟩ => ⟨S128x1, .i32⟩
  | .hbm, ⟨19, _⟩ => ⟨S128x64, .i32⟩
  | .hbm, ⟨20, _⟩ => ⟨S8192, .i32⟩
  | .hbm, ⟨21, _⟩ => ⟨S8192, .f32⟩
  | .hbm, ⟨22, _⟩ => ⟨S8192x1, .f32⟩
  | .hbm, ⟨23, _⟩ => ⟨S1x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S64, .i32⟩
  | .hbm, ⟨28, _⟩ => ⟨S1x64, .i32⟩
  | .hbm, ⟨29, _⟩ => ⟨S128x64, .i32⟩
  | .hbm, ⟨30, _⟩ => ⟨S8192, .i32⟩
  | .hbm, ⟨31, _⟩ => ⟨S8192, .f32⟩
  | .hbm, ⟨32, _⟩ => ⟨S8192x1, .f32⟩
  | .hbm, ⟨33, _⟩ => ⟨S1x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x64, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x64, .f32⟩
  | .hbm, ⟨49, _⟩ => ⟨S1x8192x1x64, .f32⟩
  | .hbm, ⟨50, _⟩ => ⟨S1x8192x2x64, .f32⟩
  | .hbm, ⟨51, _⟩ => ⟨S8192x128, .f32⟩
  | .hbm, ⟨52, _⟩ => ⟨S1x8192x1x64, .f32⟩
  | .hbm, ⟨53, _⟩ => ⟨S1x8192x2x64, .f32⟩
  | .hbm, ⟨54, _⟩ => ⟨S8192x128, .f32⟩
  | .hbm, ⟨55, _⟩ => ⟨S2x8192x1024, .bf16⟩
  | .hbm, ⟨56, _⟩ => ⟨S1024x1536, .f32⟩
  | .hbm, ⟨57, _⟩ => ⟨S1024x1536, .bf16⟩
  | .hbm, ⟨58, _⟩ => ⟨S2x8192x1536, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x1536, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x1024x1536, .bf16⟩
  | .local _ .vmem, ⟨8, _⟩ => ⟨S1x1024x1536, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S2x8192x1024 : Shape := ⟨3, ![2, 8192, 1024]⟩
abbrev S1x1024x8768 : Shape := ⟨3, ![1, 1024, 8768]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S1024x8768 : Shape := ⟨2, ![1024, 8768]⟩
abbrev S2x8192x8768 : Shape := ⟨3, ![2, 8192, 8768]⟩
abbrev S2x8192x16x64 : Shape := ⟨4, ![2, 8192, 16, 64]⟩
abbrev S16 : Shape := ⟨1, ![16]⟩
abbrev S_ : Shape := ⟨0, ![]⟩
abbrev S2x8192x16x32 : Shape := ⟨4, ![2, 8192, 16, 32]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S2x8192x16x16 : Shape := ⟨4, ![2, 8192, 16, 16]⟩
abbrev S2x8192x256 : Shape := ⟨3, ![2, 8192, 256]⟩
abbrev S2x8192x4x64 : Shape := ⟨4, ![2, 8192, 4, 64]⟩
abbrev S2x8192x4x32 : Shape := ⟨4, ![2, 8192, 4, 32]⟩
abbrev S2x8192x4x16 : Shape := ⟨4, ![2, 8192, 4, 16]⟩
abbrev S2x8192x1536 : Shape := ⟨3, ![2, 8192, 1536]⟩

abbrev nBuf : Space → Nat
  | .hbm => 150
  | .vmem => 0
  | .smem => 0
  | _ => 0

abbrev hbmTy0_0 (i : Nat) : BufTy := match i % 128 with
  | 0 => ⟨S2x8192x1024, .f32⟩
  | 1 => ⟨S1x1024x8768, .f32⟩
  | 2 => ⟨S128, .i32⟩
  | 3 => ⟨S128x1, .i32⟩
  | 4 => ⟨S128x64, .i32⟩
  | 5 => ⟨S8192, .i32⟩
  | 6 => ⟨S64, .i32⟩
  | 7 => ⟨S1x64, .i32⟩
  | 8 => ⟨S128x64, .i32⟩
  | 9 => ⟨S8192, .i32⟩
  | 10 => ⟨S1024x8768, .f32⟩
  | 11 => ⟨S2x8192x8768, .f32⟩
  | 12 => ⟨S2x8192x1024, .f32⟩
  | 13 => ⟨S2x8192x16x64, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S2x8192x16x32, .f32⟩
  | 29 => ⟨S8192, .f32⟩
  | 30 => ⟨S8192x1, .f32⟩
  | 31 => ⟨S1x16, .f32⟩
  | 32 => ⟨S8192x16, .f32⟩
  | 33 => ⟨S8192x16, .f32⟩
  | 34 => ⟨S8192x16, .f32⟩
  | 35 => ⟨S8192x16, .f32⟩
  | 36 => ⟨S1x8192x1x16, .f32⟩
  | 37 => ⟨S8192x16, .f32⟩
  | 38 => ⟨S1x8192x1x16, .f32⟩
  | 39 => ⟨S2x8192x16x16, .f32⟩
  | 40 => ⟨S2x8192x16x16, .f32⟩
  | 41 => ⟨S2x8192x16x16, .f32⟩
  | 42 => ⟨S2x8192x16x16, .f32⟩
  | 43 => ⟨S2x8192x16x16, .f32⟩
  | 44 => ⟨S2x8192x16x16, .f32⟩
  | 45 => ⟨S2x8192x16x16, .f32⟩
  | 46 => ⟨S2x8192x16x16, .f32⟩
  | 47 => ⟨S2x8192x16x16, .f32⟩
  | 48 => ⟨S2x8192x16x16, .f32⟩
  | 49 => ⟨S2x8192x16x16, .f32⟩
  | 50 => ⟨S2x8192x16x16, .f32⟩
  | 51 => ⟨S2x8192x16x32, .f32⟩
  | 52 => ⟨S2x8192x16x32, .f32⟩
  | 53 => ⟨S8192, .f32⟩
  | 54 => ⟨S8192x1, .f32⟩
  | 55 => ⟨S1x16, .f32⟩
  | 56 => ⟨S8192x16, .f32⟩
  | 57 => ⟨S8192x16, .f32⟩
  | 58 => ⟨S8192x16, .f32⟩
  | 59 => ⟨S8192x16, .f32⟩
  | 60 => ⟨S1x8192x1x16, .f32⟩
  | 61 => ⟨S8192x16, .f32⟩
  | 62 => ⟨S1x8192x1x16, .f32⟩
  | 63 => ⟨S2x8192x16x16, .f32⟩
  | 64 => ⟨S2x8192x16x16, .f32⟩
  | 65 => ⟨S2x8192x16x16, .f32⟩
  | 66 => ⟨S2x8192x16x16, .f32⟩
  | 67 => ⟨S2x8192x16x16, .f32⟩
  | 68 => ⟨S2x8192x16x16, .f32⟩
  | 69 => ⟨S2x8192x16x16, .f32⟩
  | 70 => ⟨S2x8192x16x16, .f32⟩
  | 71 => ⟨S2x8192x16x16, .f32⟩
  | 72 => ⟨S2x8192x16x16, .f32⟩
  | 73 => ⟨S2x8192x16x16, .f32⟩
  | 74 => ⟨S2x8192x16x16, .f32⟩
  | 75 => ⟨S2x8192x16x32, .f32⟩
  | 76 => ⟨S2x8192x16x64, .f32⟩
  | 77 => ⟨S2x8192x256, .f32⟩
  | 78 => ⟨S2x8192x4x64, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S2x8192x4x32, .f32⟩
  | 94 => ⟨S8192, .f32⟩
  | 95 => ⟨S8192x1, .f32⟩
  | 96 => ⟨S1x16, .f32⟩
  | 97 => ⟨S8192x16, .f32⟩
  | 98 => ⟨S8192x16, .f32⟩
  | 99 => ⟨S8192x16, .f32⟩
  | 100 => ⟨S8192x16, .f32⟩
  | 101 => ⟨S1x8192x1x16, .f32⟩
  | 102 => ⟨S8192x16, .f32⟩
  | 103 => ⟨S1x8192x1x16, .f32⟩
  | 104 => ⟨S2x8192x4x16, .f32⟩
  | 105 => ⟨S2x8192x4x16, .f32⟩
  | 106 => ⟨S2x8192x4x16, .f32⟩
  | 107 => ⟨S2x8192x4x16, .f32⟩
  | 108 => ⟨S2x8192x4x16, .f32⟩
  | 109 => ⟨S2x8192x4x16, .f32⟩
  | 110 => ⟨S2x8192x4x16, .f32⟩
  | 111 => ⟨S2x8192x4x16, .f32⟩
  | 112 => ⟨S2x8192x4x16, .f32⟩
  | 113 => ⟨S2x8192x4x16, .f32⟩
  | 114 => ⟨S2x8192x4x16, .f32⟩
  | 115 => ⟨S2x8192x4x16, .f32⟩
  | 116 => ⟨S2x8192x4x32, .f32⟩
  | 117 => ⟨S2x8192x4x32, .f32⟩
  | 118 => ⟨S8192, .f32⟩
  | 119 => ⟨S8192x1, .f32⟩
  | 120 => ⟨S1x16, .f32⟩
  | 121 => ⟨S8192x16, .f32⟩
  | 122 => ⟨S8192x16, .f32⟩
  | 123 => ⟨S8192x16, .f32⟩
  | 124 => ⟨S8192x16, .f32⟩
  | 125 => ⟨S1x8192x1x16, .f32⟩
  | 126 => ⟨S8192x16, .f32⟩
  | 127 => ⟨S1x8192x1x16, .f32⟩
  | _ => ⟨S2x8192x1024, .f32⟩

abbrev hbmTy0_1 (i : Nat) : BufTy := match i % 128 with
  | 0 => ⟨S2x8192x4x16, .f32⟩
  | 1 => ⟨S2x8192x4x16, .f32⟩
  | 2 => ⟨S2x8192x4x16, .f32⟩
  | 3 => ⟨S2x8192x4x16, .f32⟩
  | 4 => ⟨S2x8192x4x16, .f32⟩
  | 5 => ⟨S2x8192x4x16, .f32⟩
  | 6 => ⟨S2x8192x4x16, .f32⟩
  | 7 => ⟨S2x8192x4x16, .f32⟩
  | 8 => ⟨S2x8192x4x16, .f32⟩
  | 9 => ⟨S2x8192x4x16, .f32⟩
  | 10 => ⟨S2x8192x4x16, .f32⟩
  | 11 => ⟨S2x8192x4x16, .f32⟩
  | 12 => ⟨S2x8192x4x32, .f32⟩
  | 13 => ⟨S2x8192x4x64, .f32⟩
  | 14 => ⟨S_, .f32⟩
  | 15 => ⟨S2x8192x16x64, .f32⟩
  | 16 => ⟨S2x8192x16x64, .f32⟩
  | 17 => ⟨S2x8192x1024, .f32⟩
  | 18 => ⟨S2x8192x256, .f32⟩
  | 19 => ⟨S2x8192x256, .f32⟩
  | 20 => ⟨S2x8192x1536, .f32⟩
  | 21 => ⟨S2x8192x1536, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_cst_3 : Ref sig .tc := ⟨.hbm, 80, rfl⟩
abbrev main_v74 : Ref sig .tc := ⟨.hbm, 81, rfl⟩
abbrev main_v75 : Ref sig .tc := ⟨.hbm, 82, rfl⟩
abbrev main_cst_4 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_5 : Ref sig .tc := ⟨.hbm, 87, rfl⟩
abbrev main_v79 : Ref sig .tc := ⟨.hbm, 88, rfl⟩
abbrev main_v80 : Ref sig .tc := ⟨.hbm, 89, rfl⟩
abbrev main_cst_6 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_cst_7 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩

abbrev nD : Nat := 1
abbrev τ : Topo := Topo.v7x

variable {F : FTy → Type} [FloatOps F]
-- ==== Proof.AttAlg.lean ====
module

public import Idealize.ShloMosaic.PureOps.Ideal

/-!
The algebra of one attention row over the extended reals.  The kernel divides the weighted sum of the values by the
softmax denominator; the reference divides each weight first.  Where no score is `⊤` and the sink is finite, the
denominator is a positive real, and the two agree whatever the values are.
-/

@[expose] public section

noncomputable section

open Idealize.ShloMosaic

namespace Cert.AttAlg

/-- A score below `⊤`, less a real: its exponential is a nonnegative real. -/
theorem exp_real {s : EReal} (hs : s ≠ ⊤) (M : ℝ) : ∃ r : ℝ, 0 ≤ r ∧ Ideal.exp (s - (M : EReal)) = (r : EReal) := by
  induction s using EReal.rec with
  | bot => exact ⟨0, le_refl _, by rw [EReal.bot_sub, Ideal.exp_bot]; rfl⟩
  | top => exact absurd rfl hs
  | coe r => exact ⟨Real.exp (r - M), (Real.exp_pos _).le, by rw [← EReal.coe_sub, Ideal.exp_coe]⟩

/-- Multiplication by a real distributes over a finite sum of extended reals when the real is nonnegative. -/
theorem sum_mul_real {n : ℕ} (f : Fin n → EReal) (c : ℝ) (hc : 0 ≤ c) :
    (∑ i, f i) * (c : EReal) = ∑ i, f i * (c : EReal) := by
  classical
  induction (Finset.univ : Finset (Fin n)) using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of real numbers, read in the extended reals. -/
theorem sum_coe {n : ℕ} (f : Fin n → ℝ) : (∑ i, (f i : EReal)) = ((∑ i, f i : ℝ) : EReal) := by
  classical
  induction (Finset.univ : Finset (Fin n)) using Finset.induction_on with
  | empty => simp
  | insert a s ha ih => rw [Finset.sum_insert ha, Finset.sum_insert ha, ih, EReal.coe_add]

/-- The largest of a row of scores. -/
def rowMax {n : ℕ} (f : Fin n → EReal) : EReal := (Finset.univ : Finset (Fin n)).fold max ⊥ f

theorem rowMax_eq_sup {n : ℕ} (f : Fin n → EReal) : rowMax f = Finset.univ.sup f := rfl

/-- The largest of a row that ends in the sink is the larger of the sink and the rest. -/
theorem rowMax_last {n : ℕ} (L : Fin (n + 1) → EReal) (s : Fin n → EReal) (hs : ∀ j, L j.castSucc = s j) :
    rowMax L = max (rowMax s) (L (Fin.last n)) := by
  rw [rowMax_eq_sup, rowMax_eq_sup]
  refine le_antisymm (Finset.sup_le fun i _ => ?_) (max_le (Finset.sup_le fun i _ => ?_) (Finset.le_sup (Finset.mem_univ _)))
  · refine Fin.lastCases ?_ (fun j => ?_) i
    · exact le_max_right _ _
    · rw [hs]; exact le_max_of_le_left (Finset.le_sup (f := s) (Finset.mem_univ j))
  · rw [← hs]; exact Finset.le_sup (Finset.mem_univ _)

/-- The largest of scores below `⊤` and a real sink is a real. -/
theorem rowMax_real {n : ℕ} (s : Fin n → EReal) (hs : ∀ j, s j ≠ ⊤) (k : ℝ) :
    ∃ M : ℝ, max (rowMax s) (k : EReal) = (M : EReal) := by
  have hne : rowMax s ≠ ⊤ := by
    rw [rowMax_eq_sup]
    exact ne_of_lt ((Finset.sup_lt_iff bot_lt_top).mpr fun j _ => lt_top_iff_ne_top.mpr (hs j))
  have h1 : max (rowMax s) (k : EReal) ≠ ⊤ := by
    rw [max_def]; split
    · exact EReal.coe_ne_top k
    · exact hne
  have h2 : max (rowMax s) (k : EReal) ≠ ⊥ := fun h =>
    EReal.coe_ne_bot k (le_bot_iff.mp (h ▸ le_max_right (rowMax s) (k : EReal)))
  exact ⟨_, (EReal.coe_toReal h1 h2).symm⟩

/-- One row: the weighted sum over the denominator is the sum of the divided weights; where a score is `⊥` the two
    sides may weigh different values, for the weight there is zero. -/
theorem row_eq {n : ℕ} (L : Fin (n + 1) → EReal) (s V W : Fin n → EReal) (k : ℝ)
    (hL : ∀ j, L j.castSucc = s j) (hk : L (Fin.last n) = (k : EReal)) (hs : ∀ j, s j ≠ ⊤)
    (hV : ∀ j, s j = ⊥ ∨ V j = W j) :
    Ideal.div (∑ j, Ideal.exp (s j - max (rowMax s) (k : EReal)) * V j)
        ((∑ j, Ideal.exp (s j - max (rowMax s) (k : EReal))) + Ideal.exp ((k : EReal) - max (rowMax s) (k : EReal)))
      = ∑ j, W j * Ideal.div (Ideal.exp (L j.castSucc - rowMax L)) (∑ i, Ideal.exp (L i - rowMax L)) := by
  rw [rowMax_last L s hL, hk]
  obtain ⟨M, hM⟩ := rowMax_real s hs k
  rw [hM]
  choose e he0 he using fun j => exp_real (hs j) M
  have hke : Ideal.exp ((k : EReal) - (M : EReal)) = (Real.exp (k - M) : EReal) := by
    rw [← EReal.coe_sub, Ideal.exp_coe]
  have hD : (∑ i, Ideal.exp (L i - (M : EReal))) = (((∑ j, e j) + Real.exp (k - M) : ℝ) : EReal) := by
    rw [Fin.sum_univ_castSucc, hk, hke, EReal.coe_add, ← sum_coe]
    exact congrArg (· + _) (Finset.sum_congr rfl fun j _ => by rw [hL, he])
  have hd : (0 : ℝ) < (∑ j, e j) + Real.exp (k - M) :=
    add_pos_of_nonneg_of_pos (Finset.sum_nonneg fun j _ => he0 j) (Real.exp_pos _)
  have hD' : (∑ j, Ideal.exp (s j - (M : EReal))) + Ideal.exp ((k : EReal) - (M : EReal))
      = (((∑ j, e j) + Real.exp (k - M) : ℝ) : EReal) := by
    rw [hke, EReal.coe_add, ← sum_coe]
    exact congrArg (· + _) (Finset.sum_congr rfl fun j _ => by rw [he])
  rw [hD, hD', Ideal.div_coe hd.ne', sum_mul_real _ _ (one_div_pos.mpr hd).le]
  refine Finset.sum_congr rfl fun j _ => ?_
  rw [hL, Ideal.div_coe hd.ne', mul_comm (W j)]
  rcases hV j with h | h
  · rw [h, EReal.bot_sub, Ideal.exp_bot, zero_mul, zero_mul, zero_mul]
  · rw [h]; exact mul_right_comm _ _ _

end Cert.AttAlg

end
-- ==== Proof.RefAtt.lean ====
module

public import proofs.«01_k».proof.Proof.Gen.ReferenceIdeal.Run
public import proofs.«01_k».proof.Proof.AttAlg
public import Idealize.ShloMosaic.Lib.Pipeline.ValueKit

/-!
The reference attention in named stages — the padded blocks, the band of three blocks, the two score tensors, the mask,
the row maximum, the denominator, the weights and the mixture — and each stage read at one index.
-/
@[expose] public section

set_option maxRecDepth 16384
noncomputable section
open Idealize.ShloMosaic Idealize.ShloMosaic.TcCoe Idealize.SL.Sem
namespace Cert.ReferenceIdeal.Att
open Cert.ReferenceIdeal Cert.ReferenceIdeal.Gen Idealize.ShloMosaic.StableHlo

def padded (x : FVec Ideal S2x8192x4x64 .f32) : FVec Ideal S2x66x128x4x64 .f32 :=
  pad S2x66x128x4x64 ![0, 1, 0, 0, 0] ![0, 1, 0, 0, 0] ![0, 0, 0, 0, 0] (shapeCast _ x shapeCasts_S2x8192x4x64_S2x64x128x4x64 : FVec Ideal S2x64x128x4x64 .f32) (sitofp .f32 (constantI S_ 32 0#32) : FVec Ideal S_ .f32) pads_S2x64x128x4x64_S2x66x128x4x64_000_110_000_000_000 h_S_

def band (x : FVec Ideal S2x8192x4x64 .f32) : FVec Ideal S2x64x384x4x64 .f32 :=
  concatenate S2x64x384x4x64 2 [⟨S2x64x128x4x64, extractStridedSlice S2x64x128x4x64 ![0, 0, 0, 0, 0] (padded x) slices_S2x66x128x4x64_S2x64x128x4x64_0_0_0_0_0⟩, ⟨S2x64x128x4x64, extractStridedSlice S2x64x128x4x64 ![0, 1, 0, 0, 0] (padded x) slices_S2x66x128x4x64_S2x64x128x4x64_0_1_0_0_0⟩, ⟨S2x64x128x4x64, extractStridedSlice S2x64x128x4x64 ![0, 2, 0, 0, 0] (padded x) slices_S2x66x128x4x64_S2x64x128x4x64_0_2_0_0_0⟩] concatenates_S2x64x128x4x64_S2x64x128x4x64_S2x64x128x4x64_S2x64x384x4x64_d2

def swin (q : FVec Ideal S2x8192x16x64 .f32) (k : FVec Ideal S2x8192x4x64 .f32) : FVec Ideal S2x64x4x4x128x384 .f32 :=
  mulf (transpose S2x64x4x4x128x384 [0, 1, 2, 5, 4, 3] (Host.dotGeneral dot_S2x64x384x4x64_S2x64x128x4x4x64_S2x64x4x384x128x4_4_5_2_24_013_013 none (band k) (shapeCast _ q shapeCasts_S2x8192x16x64_S2x64x128x4x4x64 : FVec Ideal S2x64x128x4x4x64 .f32) : FVec Ideal _ .f32) transposes_S2x64x4x384x128x4_S2x64x4x4x128x384_0_1_2_5_4_3) (broadcastInDim S2x64x4x4x128x384 ![] bcast_S_S2x64x4x4x128x384 (constant S_ .f32 0x3E000000#32 : FVec Ideal _ .f32))

def sctx (q : FVec Ideal S2x8192x16x64 .f32) (kc : FVec Ideal S2x256x4x64 .f32) : FVec Ideal S2x64x4x4x128x256 .f32 :=
  mulf (transpose S2x64x4x4x128x256 [0, 3, 1, 5, 4, 2] (Host.dotGeneral dot_S2x256x4x64_S2x64x128x4x4x64_S2x4x256x64x128x4_3_5_1_124_02_03 none kc (shapeCast _ q shapeCasts_S2x8192x16x64_S2x64x128x4x4x64 : FVec Ideal S2x64x128x4x4x64 .f32) : FVec Ideal _ .f32) transposes_S2x4x256x64x128x4_S2x64x4x4x128x256_0_3_1_5_4_2) (broadcastInDim S2x64x4x4x128x256 ![] bcast_S_S2x64x4x4x128x256 (constant S_ .f32 0x3E000000#32 : FVec Ideal _ .f32))

def qpos : IVec S64x128 32 :=
  addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32))))
    (broadcastInDim S64x128 ![0, 1] bcast_S1x128_S64x128_0_1 (broadcastInDim S1x128 ![1] bcast_S128_S1x128_1 (iotaInDim S128 32 0)))

def kpos : IVec S64x384 32 :=
  addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32))))
    (broadcastInDim S64x384 ![0, 1] bcast_S1x384_S64x384_0_1 (broadcastInDim S1x384 ![1] bcast_S384_S1x384_1 (iotaInDim S384 32 0)))

def valid : IVec S64x128x384 1 :=
  andi (andi (cmpi .sle (absi (subi (broadcastInDim S64x128x384 ![0, 1, 2] bcast_S64x128x1_S64x128x384_0_1_2 (broadcastInDim S64x128x1 ![0, 1] bcast_S64x128_S64x128x1_0_1 qpos)) (broadcastInDim S64x128x384 ![0, 1, 2] bcast_S64x1x384_S64x128x384_0_1_2 (broadcastInDim S64x1x384 ![0, 2] bcast_S64x384_S64x1x384_0_2 kpos)))) (broadcastInDim S64x128x384 ![] bcast_S_S64x128x384 (constantI S_ 32 128#32)))
      (broadcastInDim S64x128x384 ![0, 1, 2] bcast_S64x1x384_S64x128x384_0_1_2 (broadcastInDim S64x1x384 ![0, 2] bcast_S64x384_S64x1x384_0_2 (cmpi .sge kpos (broadcastInDim S64x384 ![] bcast_S_S64x384 (constantI S_ 32 0#32))))))
    (broadcastInDim S64x128x384 ![0, 1, 2] bcast_S64x1x384_S64x128x384_0_1_2 (broadcastInDim S64x1x384 ![0, 2] bcast_S64x384_S64x1x384_0_2 (cmpi .slt kpos (broadcastInDim S64x384 ![] bcast_S_S64x384 (constantI S_ 32 8192#32)))))

def logits (q : FVec Ideal S2x8192x16x64 .f32) (k : FVec Ideal S2x8192x4x64 .f32) (kc : FVec Ideal S2x256x4x64 .f32) (s : FVec Ideal S16 .f32) : FVec Ideal S2x64x4x4x128x641 .f32 :=
  concatenate S2x64x4x4x128x641 5 [⟨S2x64x4x4x128x384, select (broadcastInDim S2x64x4x4x128x384 ![0, 1, 2, 3, 4, 5] bcast_S1x64x1x1x128x384_S2x64x4x4x128x384_0_1_2_3_4_5 (broadcastInDim S1x64x1x1x128x384 ![1, 4, 5] bcast_S64x128x384_S1x64x1x1x128x384_1_4_5 valid)) (swin q k) (broadcastInDim S2x64x4x4x128x384 ![] bcast_S_S2x64x4x4x128x384 (id (constant S_ .f32 0xFF800000#32) : FVec Ideal _ .f32))⟩,
    ⟨S2x64x4x4x128x256, sctx q kc⟩,
    ⟨S2x64x4x4x128x1, broadcastInDim S2x64x4x4x128x1 ![0, 1, 2, 3, 4, 5] bcast_S1x1x4x4x1x1_S2x64x4x4x128x1_0_1_2_3_4_5 (shapeCast _ s shapeCasts_S16_S1x1x4x4x1x1 : FVec Ideal S1x1x4x4x1x1 .f32)⟩] concatenates_S2x64x4x4x128x384_S2x64x4x4x128x256_S2x64x4x4x128x1_S2x64x4x4x128x641_d5

def top (l : FVec Ideal S2x64x4x4x128x641 .f32) : FVec Ideal S2x64x4x4x128 .f32 :=
  maximumf (broadcastInDim S2x64x4x4x128 ![] bcast_S_S2x64x4x4x128 (constant S_ .f32 0xFF800000#32 : FVec Ideal _ .f32)) (Host.reduce FloatOps.maximumf l (constant S_ .f32 0xFF800000#32 : FVec Ideal _ .f32) reducesTo_S2x64x4x4x128x641_S2x64x4x4x128_d5 h_S_)

def ex (l : FVec Ideal S2x64x4x4x128x641 .f32) : FVec Ideal S2x64x4x4x128x641 .f32 :=
  Host.exp (subf l (broadcastInDim S2x64x4x4x128x641 ![0, 1, 2, 3, 4, 5] bcast_S2x64x4x4x128x1_S2x64x4x4x128x641_0_1_2_3_4_5 (broadcastInDim S2x64x4x4x128x1 ![0, 1, 2, 3, 4] bcast_S2x64x4x4x128_S2x64x4x4x128x1_0_1_2_3_4 (top l))))

def den (e : FVec Ideal S2x64x4x4x128x641 .f32) : FVec Ideal S2x64x4x4x128 .f32 :=
  Host.reduceAdd e (constant S_ .f32 0x00000000#32 : FVec Ideal _ .f32) reducesTo_S2x64x4x4x128x641_S2x64x4x4x128_d5 h_S_

def prob (e : FVec Ideal S2x64x4x4x128x641 .f32) : FVec Ideal S2x64x4x4x128x641 .f32 :=
  Host.divf e (broadcastInDim S2x64x4x4x128x641 ![0, 1, 2, 3, 4, 5] bcast_S2x64x4x4x128x1_S2x64x4x4x128x641_0_1_2_3_4_5 (broadcastInDim S2x64x4x4x128x1 ![0, 1, 2, 3, 4] bcast_S2x64x4x4x128_S2x64x4x4x128x1_0_1_2_3_4 (den e)))

def mix (p : FVec Ideal S2x64x4x4x128x641 .f32) (v : FVec Ideal S2x8192x4x64 .f32) (vc : FVec Ideal S2x256x4x64 .f32) : FVec Ideal S2x8192x1024 .bf16 :=
  truncf .bf16 (shapeCast _ (addf
    (transpose S2x64x128x4x4x64 [0, 1, 5, 2, 4, 3] (Host.dotGeneral dot_S2x64x384x4x64_S2x64x4x4x128x384_S2x64x4x64x4x128_2_5_4_34_013_012 none (band v) (extractStridedSlice S2x64x4x4x128x384 ![0, 0, 0, 0, 0, 0] p slices_S2x64x4x4x128x641_S2x64x4x4x128x384_0_0_0_0_0_0) : FVec Ideal _ .f32) transposes_S2x64x4x64x4x128_S2x64x128x4x4x64_0_1_5_2_4_3)
    (transpose S2x64x128x4x4x64 [0, 3, 5, 1, 4, 2] (Host.dotGeneral dot_S2x256x4x64_S2x64x4x4x128x256_S2x4x64x64x4x128_1_5_3_134_02_02 none vc (extractStridedSlice S2x64x4x4x128x256 ![0, 0, 0, 0, 0, 384] p slices_S2x64x4x4x128x641_S2x64x4x4x128x256_0_0_0_0_0_384) : FVec Ideal _ .f32) transposes_S2x4x64x64x4x128_S2x64x128x4x4x64_0_3_5_1_4_2)) shapeCasts_S2x64x128x4x4x64_S2x8192x1024 : FVec Ideal S2x8192x1024 .f32) bitsLt_bf16_f32

theorem padded_apply (x : FVec Ideal S2x8192x4x64 .f32) (b : Fin 2) (n : Fin 66) (r : Fin 128) (h : Fin 4) (d : Fin 64)
    (hn : 1 ≤ n.val ∧ n.val - 1 < 64) :
    padded x (ix5 b n r h d) = x (ix4 b ⟨(n.val - 1) * 128 + r.val, by omega⟩ h d) := by
  pointwise [padded]
  rw [dif_pos hn]

theorem band_0 (x : FVec Ideal S2x8192x4x64 .f32) (b : Fin 2) (n : Fin 64) (j : Fin 384) (h : Fin 4) (d : Fin 64)
    (hj : j.val < 128) (hn : 1 ≤ n.val) :
    band x (ix5 b n j h d) = x (ix4 b ⟨(n.val - 1) * 128 + j.val, by omega⟩ h d) := by
  pointwise [band]
  rw [dif_pos hj]
  exact padded_apply x b ⟨n.val, by omega⟩ ⟨j.val, hj⟩ h d ⟨hn, by dsimp; omega⟩

theorem band_1 (x : FVec Ideal S2x8192x4x64 .f32) (b : Fin 2) (n : Fin 64) (j : Fin 384) (h : Fin 4) (d : Fin 64)
    (hj : 128 ≤ j.val) (hj' : j.val < 256) :
    band x (ix5 b n j h d) = x (ix4 b ⟨n.val * 128 + (j.val - 128), by omega⟩ h d) := by
  pointwise [band]
  rw [dif_neg (by omega), dif_pos (by omega)]
  refine (padded_apply x b ⟨1 + n.val, by omega⟩ ⟨j.val - 128, by omega⟩ h d ⟨by dsimp; omega, by dsimp; omega⟩).trans ?_
  exact congrArg (fun a => x (ix4 b a h d)) (Fin.ext (by dsimp; omega))

theorem band_2 (x : FVec Ideal S2x8192x4x64 .f32) (b : Fin 2) (n : Fin 64) (j : Fin 384) (h : Fin 4) (d : Fin 64)
    (hj : 256 ≤ j.val) (hn : n.val < 63) :
    band x (ix5 b n j h d) = x (ix4 b ⟨(n.val + 1) * 128 + (j.val - 256), by omega⟩ h d) := by
  pointwise [band]
  rw [dif_neg (by omega), dif_neg (by omega)]
  refine (padded_apply x b ⟨2 + n.val, by omega⟩ ⟨j.val - 128 - 128, by omega⟩ h d ⟨by dsimp; omega, by dsimp; omega⟩).trans ?_
  exact congrArg (fun a => x (ix4 b a h d)) (Fin.ext (by dsimp; omega))

theorem swin_apply (q : FVec Ideal S2x8192x16x64 .f32) (k : FVec Ideal S2x8192x4x64 .f32) (b : Fin 2) (n : Fin 64) (h : Fin 4)
    (g : Fin 4) (r : Fin 128) (j : Fin 384) :
    swin q k (ix6 b n h g r j)
      = (∑ x : Fin 64, band k (ix5 b n j h x) * q (ix4 b ⟨n.val * 128 + r.val, by omega⟩ ⟨h.val * 4 + g.val, by omega⟩ x))
          * Ideal.ofBits FTy.f32 1040187392#32 := by
  pointwise [swin]

theorem sctx_apply (q : FVec Ideal S2x8192x16x64 .f32) (kc : FVec Ideal S2x256x4x64 .f32) (b : Fin 2) (n : Fin 64) (h : Fin 4)
    (g : Fin 4) (r : Fin 128) (j : Fin 256) :
    sctx q kc (ix6 b n h g r j)
      = (∑ x : Fin 64, kc (ix4 b j h x) * q (ix4 b ⟨n.val * 128 + r.val, by omega⟩ ⟨h.val * 4 + g.val, by omega⟩ x))
          * Ideal.ofBits FTy.f32 1040187392#32 := by
  pointwise [sctx]

theorem logits_win (q k kc s) (b : Fin 2) (n : Fin 64) (h : Fin 4) (g : Fin 4) (r : Fin 128) (j : Fin 384) :
    logits q k kc s (ix6 b n h g r ⟨j.val, by omega⟩)
      = Scalar.select (valid (ix3 n r j)) (swin q k (ix6 b n h g r j)) (Ideal.ofBits FTy.f32 4286578688#32) := by
  pointwise [logits]
  rfl

theorem logits_ctx (q k kc s) (b : Fin 2) (n : Fin 64) (h : Fin 4) (g : Fin 4) (r : Fin 128) (j : Fin 256) :
    logits q k kc s (ix6 b n h g r ⟨384 + j.val, by omega⟩) = sctx q kc (ix6 b n h g r j) := by
  pointwise [logits]

theorem logits_sink (q k kc s) (b : Fin 2) (n : Fin 64) (h : Fin 4) (g : Fin 4) (r : Fin 128) (j : Fin 641)
    (hj : 640 ≤ j.val) : logits q k kc s (ix6 b n h g r j) = s (ix1 ⟨h.val * 4 + g.val, by omega⟩) := by
  pointwise [logits]
  rw [dif_neg (by omega), dif_neg (by omega)]

theorem reduces_641 : S2x64x4x4x128x641.Reduces [5] S2x64x4x4x128 := by decide

theorem lift_641 (b : Fin 2) (n : Fin 64) (h : Fin 4) (g : Fin 4) (r : Fin 128) (k : Fin 641) :
    reduces_641.lift (ix5 b n h g r) k = ix6 b n h g r k :=
  funext fun a => Fin.ext (by match a with | ⟨0, _⟩ => rfl | ⟨1, _⟩ => rfl | ⟨2, _⟩ => rfl | ⟨3, _⟩ => rfl | ⟨4, _⟩ => rfl | ⟨5, _⟩ => rfl)

theorem ofBits_neg_inf : Ideal.ofBits FTy.f32 4286578688#32 = ⊥ := by
  simp [Ideal.ofBits, Ideal.ieee]

theorem ofBits_eighth : Ideal.ofBits FTy.f32 1040187392#32 = ((1/8 : ℝ) : EReal) := by
  have e : Ideal.ofBits FTy.f32 1040187392#32 = ((8388608 : ℝ) : EReal) * ((1 / 67108864 : ℝ) : EReal) := by
    simp [Ideal.ofBits, Ideal.ieee]
    norm_num
  rw [e, ← EReal.coe_mul]
  norm_num

theorem ofBits_pos_inf : Ideal.ofBits FTy.f32 2139095040#32 = ⊤ := by
  simp [Ideal.ofBits, Ideal.ieee]

theorem reduce_max_single {s t u : Shape} {a : Fin s.rank} (h' : s.ReducesTo [a] t) (h : s.Reduces [a] t) (hu : 0 < u.numel)
    (x : FVec Ideal s .f32) (init : FVec Ideal u .f32) (j : t.Idx) :
    Host.reduce FloatOps.maximumf x init h' hu j
      = (Finset.univ : Finset (Fin (s.size a))).fold max (init (Shape.Idx.first hu)) (fun k => x (h.lift j k)) := by
  rw [Ideal.maximumf_eq_max, Host.reduce_eq_fold, Shape.ReducesTo.drop_eq_drop h' h, h.fold_filter_drop_single]
  rfl

theorem maximumf_apply {s : Shape} (x y : FVec Ideal s .f32) (j : s.Idx) : maximumf x y j = max (x j) (y j) := rfl

theorem splat_neg_inf {u : Shape} (i : u.Idx) : (constant u .f32 0xFF800000#32 : FVec Ideal _ .f32) i = ⊥ := ofBits_neg_inf

theorem valid_apply (n : Fin 64) (r : Fin 128) (j : Fin 384) : valid (ix3 n r j)
    = BitVec.ofBool (decide (r.val ≤ j.val ∧ j.val ≤ r.val + 256 ∧ (128 ≤ j.val ∨ 0 < n.val) ∧ (j.val < 256 ∨ n.val < 63))) := by
  pointwise [valid, qpos, kpos]
  have hn := n.isLt
  have hr := r.isLt
  have hj := j.isLt
  have hqk : IntOp.subi (IntOp.addi (IntOp.muli (BitVec.ofNat 32 n) 128#32) (BitVec.ofNat 32 r))
      (IntOp.addi (IntOp.muli (IntOp.subi (BitVec.ofNat 32 n) 1#32) 128#32) (BitVec.ofNat 32 j))
      = BitVec.ofInt 32 (128 + r.val - j.val) := by
    apply BitVec.eq_of_toNat_eq
    simp only [IntOp.subi, IntOp.addi, IntOp.muli, BitVec.toNat_sub, BitVec.toNat_add, BitVec.toNat_mul, BitVec.toNat_ofNat, BitVec.toNat_ofInt]
    omega
  have hk : IntOp.addi (IntOp.muli (IntOp.subi (BitVec.ofNat 32 n) 1#32) 128#32) (BitVec.ofNat 32 j)
      = BitVec.ofInt 32 (n.val * 128 + j.val - 128) := by
    apply BitVec.eq_of_toNat_eq
    simp only [IntOp.subi, IntOp.addi, IntOp.muli, BitVec.toNat_sub, BitVec.toNat_add, BitVec.toNat_mul, BitVec.toNat_ofNat, BitVec.toNat_ofInt]
    omega
  rw [hqk, hk]
  have e1 : IntOp.cmpi CmpIPredicate.sle (IntOp.absi (BitVec.ofInt 32 (128 + r.val - j.val))) 128#32 = BitVec.ofBool (decide (r.val ≤ j.val ∧ j.val ≤ r.val + 256)) := by
    have : (IntOp.absi (BitVec.ofInt 32 (128 + r.val - j.val))).toInt = |(128 + r.val - j.val : ℤ)| := by
      unfold IntOp.absi
      rw [BitVec.msb_eq_toInt]
      have e : (BitVec.ofInt 32 (128 + r.val - j.val)).toInt = (128 + r.val - j.val : ℤ) := by
        rw [BitVec.toInt_ofInt, Int.bmod_def]; split <;> omega
      split
      next h =>
        rw [e] at h
        rw [BitVec.toInt_neg, e, abs_of_neg (by simpa using h), Int.bmod_def]; split <;> omega
      next h =>
        rw [e] at h
        rw [e, abs_of_nonneg (by simpa using h)]
    simp only [IntOp.cmpi, BitVec.sle, this]
    congr 1
    apply decide_eq_decide.mpr
    rw [show (128#32 : BitVec 32).toInt = 128 from rfl, abs_le]
    omega
  have ek : (BitVec.ofInt 32 (n.val * 128 + j.val - 128)).toInt = (n.val * 128 + j.val - 128 : ℤ) := by
    rw [BitVec.toInt_ofInt, Int.bmod_def]; split <;> omega
  have e2 : IntOp.cmpi CmpIPredicate.sge (BitVec.ofInt 32 (n.val * 128 + j.val - 128)) 0#32 = BitVec.ofBool (decide (128 ≤ j.val ∨ 0 < n.val)) := by
    simp only [IntOp.cmpi, BitVec.sle, ek]
    congr 1
    apply decide_eq_decide.mpr
    rw [show (0#32 : BitVec 32).toInt = 0 from rfl]
    omega
  have e3 : IntOp.cmpi CmpIPredicate.slt (BitVec.ofInt 32 (n.val * 128 + j.val - 128)) 8192#32 = BitVec.ofBool (decide (j.val < 256 ∨ n.val < 63)) := by
    simp only [IntOp.cmpi, BitVec.slt, ek]
    congr 1
    apply decide_eq_decide.mpr
    rw [show (8192#32 : BitVec 32).toInt = 8192 from rfl]
    omega
  rw [e1, e2, e3]
  simp only [IntOp.andi, BitVec.ofBool_and_ofBool]
  congr 1
  simp only [← Bool.decide_and]
  apply decide_eq_decide.mpr
  tauto
theorem top_apply (l) (b : Fin 2) (n : Fin 64) (h : Fin 4) (g : Fin 4) (r : Fin 128) :
    top l (ix5 b n h g r) = AttAlg.rowMax fun j => l (ix6 b n h g r j) := by
  unfold top
  rw [maximumf_apply, reduce_max_single _ reduces_641, splat_neg_inf]
  have e : (broadcastInDim S2x64x4x4x128 ![] bcast_S_S2x64x4x4x128 (constant S_ .f32 0xFF800000#32 : FVec Ideal _ .f32)) (ix5 b n h g r) = ⊥ := ofBits_neg_inf
  rw [e, bot_sup_eq]
  unfold AttAlg.rowMax
  exact congrArg (Finset.fold max ⊥ · Finset.univ) (funext fun k => congrArg l (lift_641 b n h g r k))

theorem ex_apply (l) (b : Fin 2) (n : Fin 64) (h : Fin 4) (g : Fin 4) (r : Fin 128) (j : Fin 641) :
    ex l (ix6 b n h g r j) = Ideal.exp (l (ix6 b n h g r j) - AttAlg.rowMax fun i => l (ix6 b n h g r i)) := by
  pointwise [ex]
  rw [top_apply]

theorem den_apply (e : FVec Ideal S2x64x4x4x128x641 .f32) (b : Fin 2) (n : Fin 64) (h : Fin 4) (g : Fin 4) (r : Fin 128) :
    den e (ix5 b n h g r) = ∑ j : Fin 641, e (ix6 b n h g r j) := by
  unfold den
  simp only [Host.reduceAdd, Ideal.hostReduceAdd_def]
  rw [Ideal.hostReduceAdd_single reducesTo_S2x64x4x4x128x641_S2x64x4x4x128_d5 reduces_641]
  have e0 : (constant S_ .f32 0x00000000#32 : FVec Ideal _ .f32) (Shape.Idx.first h_S_) = 0 := Ideal.ofBits_zero_f32
  rw [e0, zero_add]
  exact Finset.sum_congr rfl fun k _ => congrArg e (lift_641 b n h g r k)

theorem prob_apply (e) (b : Fin 2) (n : Fin 64) (h : Fin 4) (g : Fin 4) (r : Fin 128) (j : Fin 641) :
    prob e (ix6 b n h g r j) = Ideal.div (e (ix6 b n h g r j)) (∑ i : Fin 641, e (ix6 b n h g r i)) := by
  pointwise [prob]
  rw [den_apply]

theorem mix_apply (p v vc) (b : Fin 2) (l : Fin 8192) (x : Fin 1024) :
    mix p v vc (ix3 b l x)
      = (∑ j : Fin 384, band v (ix5 b ⟨l.val / 128, by omega⟩ j ⟨x.val / 256, by omega⟩ ⟨x.val % 64, by omega⟩)
            * p (ix6 b ⟨l.val / 128, by omega⟩ ⟨x.val / 256, by omega⟩ ⟨x.val / 64 % 4, by omega⟩ ⟨l.val % 128, by omega⟩ ⟨j.val, by omega⟩))
        + ∑ j : Fin 256, vc (ix4 b j ⟨x.val / 256, by omega⟩ ⟨x.val % 64, by omega⟩)
            * p (ix6 b ⟨l.val / 128, by omega⟩ ⟨x.val / 256, by omega⟩ ⟨x.val / 64 % 4, by omega⟩ ⟨l.val % 128, by omega⟩ ⟨384 + j.val, by omega⟩) := by
  pointwise [mix]

theorem res_eq (m : (ℓ : Loc nD τ sig) → Buf (Elt Ideal) ℓ) (c : Dev nD) :
    Value.res_main_v83 m c = mix (prob (ex (logits (m ((c.tc : Thread nD τ).loc main_arg0)) (m ((c.tc : Thread nD τ).loc main_arg1)) (m ((c.tc : Thread nD τ).loc main_arg3)) (m ((c.tc : Thread nD τ).loc main_arg5)))))
      (m ((c.tc : Thread nD τ).loc main_arg2)) (m ((c.tc : Thread nD τ).loc main_arg4)) := by
  unfold Value.res_main_v83; rfl

end Cert.ReferenceIdeal.Att
end
-- ==== Proof.AttHead.lean ====
module

public import proofs.«01_k».proof.Proof.Gen.KernelIdeal.Skeleton
public import proofs.«01_k».proof.Proof.RefAtt
public import Idealize.ShloMosaic.Lib.Pipeline.ValueKit

/-!
One group of four query heads of the kernel, from the stacked queries, keys and values, and the group's result read at one
index.
-/
@[expose] public section

set_option maxRecDepth 16384
noncomputable section
open Idealize.ShloMosaic Idealize.ShloMosaic.TcCoe Idealize.SL.Sem
namespace Cert.KernelIdeal.Att
open Cert.KernelIdeal Cert.KernelIdeal.Gen

/-- Four query heads, one above the other. -/
def cat4 (a b c d : FVec Ideal S128x64 .bf16) : FVec Ideal S512x64 .bf16 :=
  concatenate S512x64 0 [⟨S128x64, a⟩, ⟨S128x64, b⟩, ⟨S128x64, c⟩, ⟨S128x64, d⟩] concatenates_S128x64_S128x64_S128x64_S128x64_S512x64_d0

/-- Three blocks of the window above the context. -/
def stack (a b c : FVec Ideal S1x128x64 .bf16) (d : FVec Ideal S1x256x64 .bf16) : FVec Ideal S640x64 .bf16 :=
  concatenate S640x64 0 [⟨S128x64, (shapeCast S128x64 a shapeCasts_S1x128x64_S128x64 : FVec Ideal S128x64 .bf16)⟩,
    ⟨S128x64, (shapeCast S128x64 b shapeCasts_S1x128x64_S128x64 : FVec Ideal S128x64 .bf16)⟩,
    ⟨S128x64, (shapeCast S128x64 c shapeCasts_S1x128x64_S128x64 : FVec Ideal S128x64 .bf16)⟩,
    ⟨S256x64, (shapeCast S256x64 d shapeCasts_S1x256x64_S256x64 : FVec Ideal S256x64 .bf16)⟩]
    concatenates_S128x64_S128x64_S128x64_S256x64_S640x64_d0

/-- Scores of every stacked query against every stacked key. -/
def score (q : FVec Ideal S512x64 .bf16) (k : FVec Ideal S640x64 .bf16) : FVec Ideal S512x640 .f32 :=
  matmul dot_S512x64_S640x64_S512x640_1_1_0_0_n_n none q k (constant S512x640 .f32 0x00000000#32)

def sinkCol (hrow : IVec S512x1 32) (s0 s1 s2 s3 : EReal) : FVec Ideal S512x1 .f32 :=
  select (cmpi .eq hrow (broadcast S512x1 3#32)) (broadcast S512x1 s3 : FVec Ideal S512x1 .f32)
    (select (cmpi .eq hrow (broadcast S512x1 2#32)) (broadcast S512x1 s2 : FVec Ideal S512x1 .f32)
      (select (cmpi .eq hrow (broadcast S512x1 1#32)) (broadcast S512x1 s1 : FVec Ideal S512x1 .f32)
        (select (cmpi .eq hrow (broadcast S512x1 0#32)) (broadcast S512x1 s0 : FVec Ideal S512x1 .f32)
          (broadcast S512x1 (Scalar.ofBits .f32 0x00000000#32 : Ideal .f32)))))

def masked (mask : IVec S512x640 1) (s : FVec Ideal S512x640 .f32) : FVec Ideal S512x640 .f32 :=
  select mask s (broadcast S512x640 (Scalar.ofBits .f32 0xFF800000#32 : Ideal .f32))

def topCol (s : FVec Ideal S512x640 .f32) (k : FVec Ideal S512x1 .f32) : FVec Ideal S512x1 .f32 :=
  maximumf (shapeCast S512x1 (multiReduction .maximumf [1] S512 s 0xFF800000#32 reduces_S512x640_S512 (.inl rfl) rfl : FVec Ideal S512 .f32) shapeCasts_S512_S512x1) k

def wts (s : FVec Ideal S512x640 .f32) (k : FVec Ideal S512x1 .f32) : FVec Ideal S512x640 .f32 :=
  exp (subf s (broadcastTo S512x640 (topCol s k) broadcasts_S512x1_S512x640))

def denCol (s : FVec Ideal S512x640 .f32) (k : FVec Ideal S512x1 .f32) : FVec Ideal S512x1 .f32 :=
  addf (shapeCast S512x1 (multiReduction .add [1] S512 (wts s k) 0x00000000#32 reduces_S512x640_S512 (.inl rfl) rfl : FVec Ideal S512 .f32) shapeCasts_S512_S512x1)
    (exp (subf k (topCol s k)))

/-- The weighted values over the denominator. -/
def mixed (s : FVec Ideal S512x640 .f32) (k : FVec Ideal S512x1 .f32) (v : FVec Ideal S640x64 .bf16) : FVec Ideal S512x64 .f32 :=
  divf (matmul dot_S512x640_S640x64_S512x64_1_0_0_1_n_n none (truncf .bf16 (wts s k) bitsLt_bf16_f32 : FVec Ideal S512x640 .bf16) v (constant S512x64 .f32 0x00000000#32))
    (broadcastTo S512x64 (denCol s k) broadcasts_S512x1_S512x64)

/-- The four heads side by side. -/
def spread (x : FVec Ideal S512x64 .f32) : FVec Ideal S1x128x256 .bf16 :=
  shapeCast S1x128x256 (truncf .bf16 (concatenate S128x256 1 [⟨S128x64, extractStridedSlice S128x64 ![0, 0] x slices_S512x64_o0_0_S128x64⟩,
    ⟨S128x64, extractStridedSlice S128x64 ![128, 0] x slices_S512x64_o128_0_S128x64⟩,
    ⟨S128x64, extractStridedSlice S128x64 ![256, 0] x slices_S512x64_o256_0_S128x64⟩,
    ⟨S128x64, extractStridedSlice S128x64 ![384, 0] x slices_S512x64_o384_0_S128x64⟩] concatenates_S128x64_S128x64_S128x64_S128x64_S128x256_d1 : FVec Ideal S128x256 .f32) bitsLt_bf16_f32 : FVec Ideal S128x256 .bf16) shapeCasts_S128x256_S1x128x256

/-- One group of four query heads sharing their keys and values. -/
def attend (mask : IVec S512x640 1) (hrow : IVec S512x1 32) (q : FVec Ideal S512x64 .bf16) (k v : FVec Ideal S640x64 .bf16)
    (s0 s1 s2 s3 : EReal) : FVec Ideal S1x128x256 .bf16 :=
  spread (mixed (masked mask (score q k)) (sinkCol hrow s0 s1 s2 s3) v)

theorem cat4_apply (a b c d : FVec Ideal S128x64 .bf16) (g : Fin 4) (r : Fin 128) (x : Fin 64) :
    cat4 a b c d (ix2 ⟨128 * g.val + r.val, by omega⟩ x) = (![a, b, c, d] g) (ix2 r x) := by
  pointwise [cat4]
  have hr := r.isLt
  fin_cases g
  · rw [dif_pos (by simp <;> omega)]; congr 2; apply Fin.ext; simp
  · rw [dif_neg (by simp <;> omega), dif_pos (by simp <;> omega)]; congr 2; apply Fin.ext; simp
  · rw [dif_neg (by simp <;> omega), dif_neg (by simp <;> omega), dif_pos (by simp <;> omega)]; congr 2; apply Fin.ext; simp; omega
  · rw [dif_neg (by simp <;> omega), dif_neg (by simp <;> omega), dif_neg (by simp <;> omega)]; congr 2; apply Fin.ext; simp; omega

theorem stack_0 (a b c d) (j : Fin 640) (x : Fin 64) (h : j.val < 128) :
    stack a b c d (ix2 j x) = a (ix3 0 ⟨j.val, h⟩ x) := by
  pointwise [stack]
  rw [dif_pos h]

theorem stack_1 (a b c d) (j : Fin 640) (x : Fin 64) (h : 128 ≤ j.val) (h' : j.val < 256) :
    stack a b c d (ix2 j x) = b (ix3 0 ⟨j.val - 128, by omega⟩ x) := by
  pointwise [stack]
  rw [dif_neg (by omega), dif_pos (by omega)]

theorem stack_2 (a b c d) (j : Fin 640) (x : Fin 64) (h : 256 ≤ j.val) (h' : j.val < 384) :
    stack a b c d (ix2 j x) = c (ix3 0 ⟨j.val - 256, by omega⟩ x) := by
  pointwise [stack]
  rw [dif_neg (by omega), dif_neg (by omega), dif_pos (by omega)]
  exact congrArg (fun i => c (ix3 0 i x)) (Fin.ext (by dsimp; omega))

theorem stack_3 (a b c d) (j : Fin 640) (x : Fin 64) (h : 384 ≤ j.val) :
    stack a b c d (ix2 j x) = d (ix3 0 ⟨j.val - 384, by omega⟩ x) := by
  pointwise [stack]
  rw [dif_neg (by omega), dif_neg (by omega), dif_neg (by omega)]
  exact congrArg (fun i => d (ix3 0 i x)) (Fin.ext (by dsimp; omega))

theorem score_apply (q k) (r : Fin 512) (j : Fin 640) :
    score q k (ix2 r j) = ∑ x : Fin 64, q (ix2 r x) * k (ix2 j x) := by
  pointwise [score]

theorem masked_apply (mask : IVec S512x640 1) (s : FVec Ideal S512x640 .f32) (i : S512x640.Idx) :
    masked mask s i = Scalar.select (mask i) (s i) ⊥ := by
  unfold masked
  rw [show (⊥ : EReal) = Ideal.ofBits FTy.f32 4286578688#32 from ReferenceIdeal.Att.ofBits_neg_inf.symm]
  rfl

theorem topCol_apply (s : FVec Ideal S512x640 .f32) (k : FVec Ideal S512x1 .f32) (r : Fin 512) :
    topCol s k (ix2 r 0) = max (AttAlg.rowMax fun j => s (ix2 r j)) (k (ix2 r 0)) := by
  pointwise [topCol]
  rfl

theorem wts_apply (s : FVec Ideal S512x640 .f32) (k : FVec Ideal S512x1 .f32) (r : Fin 512) (j : Fin 640) :
    wts s k (ix2 r j) = Ideal.exp (s (ix2 r j) - max (AttAlg.rowMax fun j => s (ix2 r j)) (k (ix2 r 0))) := by
  pointwise [wts]
  rw [topCol_apply]

theorem denCol_apply (s : FVec Ideal S512x640 .f32) (k : FVec Ideal S512x1 .f32) (r : Fin 512) :
    denCol s k (ix2 r 0) = (∑ j : Fin 640, Ideal.exp (s (ix2 r j) - max (AttAlg.rowMax fun j => s (ix2 r j)) (k (ix2 r 0))))
      + Ideal.exp (k (ix2 r 0) - max (AttAlg.rowMax fun j => s (ix2 r j)) (k (ix2 r 0))) := by
  pointwise [denCol]
  rw [topCol_apply]
  simp only [wts_apply]

theorem mixed_apply (s : FVec Ideal S512x640 .f32) (k : FVec Ideal S512x1 .f32) (v : FVec Ideal S640x64 .bf16) (r : Fin 512) (x : Fin 64) :
    mixed s k v (ix2 r x) = Ideal.div
      (∑ j : Fin 640, Ideal.exp (s (ix2 r j) - max (AttAlg.rowMax fun j => s (ix2 r j)) (k (ix2 r 0))) * v (ix2 j x))
      ((∑ j : Fin 640, Ideal.exp (s (ix2 r j) - max (AttAlg.rowMax fun j => s (ix2 r j)) (k (ix2 r 0))))
        + Ideal.exp (k (ix2 r 0) - max (AttAlg.rowMax fun j => s (ix2 r j)) (k (ix2 r 0)))) := by
  pointwise [mixed]
  rw [denCol_apply]
  simp only [wts_apply]

theorem spread_apply (x : FVec Ideal S512x64 .f32) (r : Fin 128) (g : Fin 4) (d : Fin 64) :
    spread x (ix3 0 r ⟨64 * g.val + d.val, by omega⟩) = x (ix2 ⟨128 * g.val + r.val, by omega⟩ d) := by
  pointwise [spread]
  have hd := d.isLt
  fin_cases g
  · rw [dif_pos (by simp <;> omega)]; congr 2 <;> apply Fin.ext <;> simp
  · rw [dif_neg (by simp <;> omega), dif_pos (by simp <;> omega)]; congr 2 <;> apply Fin.ext <;> simp <;> omega
  · rw [dif_neg (by simp <;> omega), dif_neg (by simp <;> omega), dif_pos (by simp <;> omega)]; congr 2 <;> apply Fin.ext <;> simp <;> omega
  · rw [dif_neg (by simp <;> omega), dif_neg (by simp <;> omega), dif_neg (by simp <;> omega)]; congr 2 <;> apply Fin.ext <;> simp <;> omega

/-- The row's head number. -/
def headRow : IVec S512x1 32 := k0_pay5 (iota .tc S512x1 32 [0] iota_S512x1_d0_w32) 128#32 k0_pay3 k0_pay4

theorem headRow_apply (g : Fin 4) (r : Fin 128) : headRow (ix2 ⟨128 * g.val + r.val, by omega⟩ 0) = BitVec.ofNat 32 g.val := by
  have : ∀ (g : Fin 4) (r : Fin 128), headRow (ix2 ⟨128 * g.val + r.val, by omega⟩ 0) = BitVec.ofNat 32 g.val := by decide +kernel
  exact this g r

theorem sinkCol_apply (s0 s1 s2 s3 : EReal) (g : Fin 4) (r : Fin 128) :
    sinkCol headRow s0 s1 s2 s3 (ix2 ⟨128 * g.val + r.val, by omega⟩ 0) = ![s0, s1, s2, s3] g := by
  pointwise [sinkCol]
  rw [headRow_apply]
  fin_cases g <;> rfl

end Cert.KernelIdeal.Att
end
-- ==== Proof.AttCore.lean ====
module

public import proofs.«01_k».proof.Proof.AttHead

/-!
One entry of the kernel's attention against the reference's: the same scores where the mask lets them through, the same row
maximum, and the division by the denominator taken after the sum instead of before it.
-/
@[expose] public section

set_option maxRecDepth 16384
noncomputable section
open Idealize.ShloMosaic Idealize.ShloMosaic.TcCoe Idealize.SL.Sem
namespace Cert.KernelIdeal.Att
open Cert.KernelIdeal Cert.KernelIdeal.Gen

/-- Which keys a query row of block `n` sees: the window, and every context key. -/
def Sees (n : Fin 64) (r : Fin 128) (j : ℕ) : Prop :=
  r.val ≤ j ∧ j ≤ r.val + 256 ∧ (128 ≤ j ∨ 0 < n.val) ∧ (j < 256 ∨ n.val < 63)

instance (n : Fin 64) (r : Fin 128) (j : ℕ) : Decidable (Sees n r j) := by unfold Sees; infer_instance

theorem sel_true (a b : EReal) : Scalar.select (BitVec.ofBool true) a b = a := rfl

def IsReal {s : Shape} (x : FVec Ideal s .f32) : Prop := ∀ i, ∃ r : ℝ, x i = (r : EReal)

theorem scale_sum (a b : Fin 64 → EReal) (ha : ∀ x, ∃ r : ℝ, a x = (r : EReal)) (hb : ∀ x, ∃ r : ℝ, b x = (r : EReal)) :
    ∃ r : ℝ, (∑ x, (a x * ((1/8 : ℝ) : EReal)) * b x) = (r : EReal) ∧ (∑ x, b x * a x) * ((1/8 : ℝ) : EReal) = (r : EReal) := by
  choose p hp using ha
  choose q hq using hb
  refine ⟨∑ x, (p x * (1/8)) * q x, ?_, ?_⟩
  · rw [← AttAlg.sum_coe]
    exact Finset.sum_congr rfl fun x _ => by rw [hp, hq, EReal.coe_mul, EReal.coe_mul]
  · have : (∑ x, b x * a x) = ((∑ x, q x * p x : ℝ) : EReal) := by
      rw [← AttAlg.sum_coe]
      exact Finset.sum_congr rfl fun x _ => by rw [hp, hq, EReal.coe_mul]
    rw [this, ← EReal.coe_mul, Finset.sum_mul]
    congr 1
    exact Finset.sum_congr rfl fun x _ => by ring

section
variable (q : FVec Ideal S2x8192x16x64 .f32) (k v : FVec Ideal S2x8192x4x64 .f32) (kc vc : FVec Ideal S2x256x4x64 .f32)
  (sk : FVec Ideal S16 .f32)

/-- A mixed value at block, head and row coordinates. -/
def mixAt (p : FVec Ideal ReferenceIdeal.S2x64x4x4x128x641 .f32) (b : Fin 2) (n : Fin 64) (h g : Fin 4) (r : Fin 128) (d : Fin 64) : EReal :=
  (∑ j : Fin 384, ReferenceIdeal.Att.band v (ix5 b n j h d) * p (ix6 b n h g r ⟨j.val, by omega⟩))
    + ∑ j : Fin 256, vc (ix4 b j h d) * p (ix6 b n h g r ⟨384 + j.val, by omega⟩)

theorem mix_at (p) (b : Fin 2) (n : Fin 64) (h g : Fin 4) (r : Fin 128) (d : Fin 64) :
    ReferenceIdeal.Att.mix p v vc (ix3 b ⟨n.val * 128 + r.val, by omega⟩ ⟨256 * h.val + (64 * g.val + d.val), by omega⟩)
      = mixAt v vc p b n h g r d := by
  refine (ReferenceIdeal.Att.mix_apply p v vc b _ _).trans ?_
  show mixAt v vc p b _ _ _ _ _ = _
  congr 1 <;> apply Fin.ext <;> dsimp <;> omega

/-- What the blocks of one grid point hold, for one group of heads. -/
structure Holds (b : Fin 2) (n : Fin 64) (h : Fin 4) (x : FVec Ideal S2x8192x4x64 .f32) (xc : FVec Ideal S2x256x4x64 .f32)
    (ya yb yd : FVec Ideal S1x128x64 .bf16) (yx : FVec Ideal S1x256x64 .bf16) : Prop where
  prev : ∀ (j : Fin 128) (d : Fin 64) (hn : 0 < n.val), ya (ix3 0 j d) = x (ix4 b ⟨(n.val - 1) * 128 + j.val, by omega⟩ h d)
  here : ∀ (j : Fin 128) (d : Fin 64), yb (ix3 0 j d) = x (ix4 b ⟨n.val * 128 + j.val, by omega⟩ h d)
  next : ∀ (j : Fin 128) (d : Fin 64) (hn : n.val < 63), yd (ix3 0 j d) = x (ix4 b ⟨(n.val + 1) * 128 + j.val, by omega⟩ h d)
  ctx : ∀ (j : Fin 256) (d : Fin 64), yx (ix3 0 j d) = xc (ix4 b j h d)

theorem Holds.band {b : Fin 2} {n : Fin 64} {h : Fin 4} {x : FVec Ideal S2x8192x4x64 .f32} {xc : FVec Ideal S2x256x4x64 .f32}
    {ya yb yd : FVec Ideal S1x128x64 .bf16} {yx : FVec Ideal S1x256x64 .bf16} (H : Holds b n h x xc ya yb yd yx)
    (r : Fin 128) (j : Fin 640) (d : Fin 64) (hj : j.val < 384) (hs : Sees n r j.val) :
    stack ya yb yd yx (ix2 j d) = ReferenceIdeal.Att.band x (ix5 b n ⟨j.val, hj⟩ h d) := by
  obtain ⟨h1, h2, h3, h4⟩ := hs
  rcases lt_or_ge j.val 128 with a | a
  · rw [stack_0 _ _ _ _ _ _ a, ReferenceIdeal.Att.band_0 x b n ⟨j.val, hj⟩ h d a (by omega)]
    exact H.prev _ _ (by omega)
  · rcases lt_or_ge j.val 256 with a' | a'
    · rw [stack_1 _ _ _ _ _ _ a a', ReferenceIdeal.Att.band_1 x b n ⟨j.val, hj⟩ h d a a']
      exact H.here _ _
    · rw [stack_2 _ _ _ _ _ _ a' hj, ReferenceIdeal.Att.band_2 x b n ⟨j.val, hj⟩ h d a' (by omega)]
      exact H.next _ _ (by omega)

theorem Holds.context {b : Fin 2} {n : Fin 64} {h : Fin 4} {x : FVec Ideal S2x8192x4x64 .f32} {xc : FVec Ideal S2x256x4x64 .f32}
    {ya yb yd : FVec Ideal S1x128x64 .bf16} {yx : FVec Ideal S1x256x64 .bf16} (H : Holds b n h x xc ya yb yd yx)
    (j : Fin 640) (d : Fin 64) (hj : 384 ≤ j.val) :
    stack ya yb yd yx (ix2 j d) = xc (ix4 b ⟨j.val - 384, by omega⟩ h d) := by
  rw [stack_3 _ _ _ _ _ _ hj]
  exact H.ctx _ _

/-- The band of a real array is real wherever a row sees it. -/
theorem band_real (hx : IsReal k) (b : Fin 2) (n : Fin 64) (h : Fin 4) (d : Fin 64) (r : Fin 128) (j : Fin 384) (hs : Sees n r j.val) :
    ∃ a : ℝ, ReferenceIdeal.Att.band k (ix5 b n j h d) = (a : EReal) := by
  obtain ⟨h1, h2, h3, h4⟩ := hs
  rcases lt_or_ge j.val 128 with a | a
  · rw [ReferenceIdeal.Att.band_0 k b n j h d a (by omega)]; exact hx _
  · rcases lt_or_ge j.val 256 with a' | a'
    · rw [ReferenceIdeal.Att.band_1 k b n j h d a a']; exact hx _
    · rw [ReferenceIdeal.Att.band_2 k b n j h d a' (by omega)]; exact hx _

variable {b : Fin 2} {n : Fin 64} {h : Fin 4} {mask : IVec S512x640 1} {Q : Fin 4 → FVec Ideal S128x64 .bf16}
  {ka kb kd va vb vd : FVec Ideal S1x128x64 .bf16} {kx vx : FVec Ideal S1x256x64 .bf16}

/-- The reference's value for a key position. -/
def valAt (b : Fin 2) (n : Fin 64) (h : Fin 4) (d : Fin 64) (j : Fin 640) : EReal :=
  if hj : j.val < 384 then ReferenceIdeal.Att.band v (ix5 b n ⟨j.val, hj⟩ h d) else vc (ix4 b ⟨j.val - 384, by omega⟩ h d)

theorem entry (hq : IsReal q) (hk : IsReal k) (hkc : IsReal kc)
    (hmask : ∀ (g : Fin 4) (r : Fin 128) (j : Fin 640), mask (ix2 ⟨128 * g.val + r.val, by omega⟩ j) = BitVec.ofBool (decide (Sees n r j.val ∨ 384 ≤ j.val)))
    (hQ : ∀ (g : Fin 4) (r : Fin 128) (x : Fin 64), Q g (ix2 r x)
      = @HMul.hMul EReal EReal EReal _ (q (ix4 b ⟨n.val * 128 + r.val, by omega⟩ ⟨h.val * 4 + g.val, by omega⟩ x)) ((1/8 : ℝ) : EReal))
    (hK : Holds b n h k kc ka kb kd kx) (hV : Holds b n h v vc va vb vd vx)
    (g : Fin 4) (r : Fin 128) (d : Fin 64) (j : Fin 640) :
    (masked mask (score (cat4 (Q 0) (Q 1) (Q 2) (Q 3)) (stack ka kb kd kx)) (ix2 ⟨128 * g.val + r.val, by omega⟩ j) = (⊥ : EReal)
        ∧ ReferenceIdeal.Att.logits q k kc sk (ix6 b n h g r j.castSucc) = (⊥ : EReal))
      ∨ ((∃ a : ℝ, masked mask (score (cat4 (Q 0) (Q 1) (Q 2) (Q 3)) (stack ka kb kd kx)) (ix2 ⟨128 * g.val + r.val, by omega⟩ j) = (a : EReal)
          ∧ ReferenceIdeal.Att.logits q k kc sk (ix6 b n h g r j.castSucc) = (a : EReal))
        ∧ stack va vb vd vx (ix2 j d) = valAt v vc b n h d j) := by
  rw [masked_apply, hmask, score_apply]
  have hcat : ∀ x : Fin 64, cat4 (Q 0) (Q 1) (Q 2) (Q 3) (ix2 ⟨128 * g.val + r.val, by omega⟩ x)
      = @HMul.hMul EReal EReal EReal _ (q (ix4 b ⟨n.val * 128 + r.val, by omega⟩ ⟨h.val * 4 + g.val, by omega⟩ x)) ((1/8 : ℝ) : EReal) := by
    intro x
    rw [cat4_apply, ← hQ]
    fin_cases g <;> rfl
  simp only [hcat]
  rcases lt_or_ge j.val 384 with hj | hj
  · have e : ReferenceIdeal.Att.logits q k kc sk (ix6 b n h g r j.castSucc) = _ :=
      ReferenceIdeal.Att.logits_win q k kc sk b n h g r ⟨j.val, hj⟩
    rw [e, ReferenceIdeal.Att.valid_apply, ReferenceIdeal.Att.swin_apply, ReferenceIdeal.Att.ofBits_neg_inf, ReferenceIdeal.Att.ofBits_eighth]
    by_cases hs : Sees n r j.val
    · right
      rw [decide_eq_true (show Sees n r j.val ∨ 384 ≤ j.val from Or.inl hs), decide_eq_true (show r.val ≤ j.val ∧ _ from hs)]
      refine ⟨?_, ?_⟩
      · obtain ⟨a, ha, ha'⟩ := scale_sum (fun x => q (ix4 b ⟨n.val * 128 + r.val, by omega⟩ ⟨h.val * 4 + g.val, by omega⟩ x))
          (fun x => ReferenceIdeal.Att.band k (ix5 b n ⟨j.val, hj⟩ h x)) (fun x => hq _) (fun x => band_real k hk b n h x r ⟨j.val, hj⟩ hs)
        refine ⟨a, ?_, ?_⟩
        · refine (sel_true _ _).trans (Eq.trans ?_ ha)
          exact Finset.sum_congr rfl fun x _ => by rw [hK.band r j x hj hs]
        · exact ha'
      · unfold valAt
        rw [dif_pos hj]
        exact hV.band r j d hj hs
    · left
      rw [decide_eq_false (show ¬ (Sees n r j.val ∨ 384 ≤ j.val) from by rintro (a | a); exacts [hs a, by omega]),
        decide_eq_false (show ¬ (r.val ≤ j.val ∧ _) from hs)]
      exact ⟨rfl, rfl⟩
  · right
    have e : ReferenceIdeal.Att.logits q k kc sk (ix6 b n h g r j.castSucc) = _ :=
      (congrArg (fun i => ReferenceIdeal.Att.logits q k kc sk (ix6 b n h g r i)) (Fin.ext (by simp; omega))).trans
        (ReferenceIdeal.Att.logits_ctx q k kc sk b n h g r ⟨j.val - 384, by omega⟩)
    rw [e, ReferenceIdeal.Att.sctx_apply, ReferenceIdeal.Att.ofBits_eighth, decide_eq_true (show Sees n r j.val ∨ 384 ≤ j.val from Or.inr hj)]
    refine ⟨?_, ?_⟩
    · obtain ⟨a, ha, ha'⟩ := scale_sum (fun x => q (ix4 b ⟨n.val * 128 + r.val, by omega⟩ ⟨h.val * 4 + g.val, by omega⟩ x))
        (fun x => kc (ix4 b ⟨j.val - 384, by omega⟩ h x)) (fun x => hq _) (fun x => hkc _)
      refine ⟨a, ?_, ha'⟩
      refine (sel_true _ _).trans (Eq.trans ?_ ha)
      exact Finset.sum_congr rfl fun x _ => by rw [hK.context j x hj]
    · unfold valAt
      rw [dif_neg (by omega)]
      exact hV.context j d hj

theorem core (hq : IsReal q) (hk : IsReal k) (hkc : IsReal kc) (hsk : IsReal sk)
    (hmask : ∀ (g : Fin 4) (r : Fin 128) (j : Fin 640), mask (ix2 ⟨128 * g.val + r.val, by omega⟩ j) = BitVec.ofBool (decide (Sees n r j.val ∨ 384 ≤ j.val)))
    (hQ : ∀ (g : Fin 4) (r : Fin 128) (x : Fin 64), Q g (ix2 r x)
      = @HMul.hMul EReal EReal EReal _ (q (ix4 b ⟨n.val * 128 + r.val, by omega⟩ ⟨h.val * 4 + g.val, by omega⟩ x)) ((1/8 : ℝ) : EReal))
    (hK : Holds b n h k kc ka kb kd kx) (hV : Holds b n h v vc va vb vd vx)
    (S : Fin 4 → EReal) (hS : ∀ g : Fin 4, S g = sk (ix1 ⟨h.val * 4 + g.val, by omega⟩))
    (g : Fin 4) (r : Fin 128) (d : Fin 64) :
    attend mask headRow (cat4 (Q 0) (Q 1) (Q 2) (Q 3)) (stack ka kb kd kx) (stack va vb vd vx) (S 0) (S 1) (S 2) (S 3)
        (ix3 0 r ⟨64 * g.val + d.val, by omega⟩)
      = ReferenceIdeal.Att.mix (ReferenceIdeal.Att.prob (ReferenceIdeal.Att.ex (ReferenceIdeal.Att.logits q k kc sk))) v vc
          (ix3 b ⟨n.val * 128 + r.val, by omega⟩ ⟨256 * h.val + (64 * g.val + d.val), by omega⟩) := by
  obtain ⟨κ, hκ⟩ := hsk (ix1 ⟨h.val * 4 + g.val, by omega⟩)
  have hsink : sinkCol headRow (S 0) (S 1) (S 2) (S 3) (ix2 ⟨128 * g.val + r.val, by omega⟩ 0) = (κ : EReal) := by
    rw [sinkCol_apply, ← hκ, ← hS]
    fin_cases g <;> rfl
  rw [mix_at]
  unfold attend
  rw [spread_apply, mixed_apply, hsink]
  have E := entry q k v kc vc sk hq hk hkc hmask hQ hK hV g r d
  refine (AttAlg.row_eq (fun j : Fin 641 => ReferenceIdeal.Att.logits q k kc sk (ix6 b n h g r j)) _ _ (valAt v vc b n h d) κ ?_ ?_ ?_ ?_).trans ?_
  · intro j
    rcases E j with ⟨a, a'⟩ | ⟨⟨x, a, a'⟩, _⟩
    · exact a'.trans a.symm
    · exact a'.trans a.symm
  · exact (ReferenceIdeal.Att.logits_sink q k kc sk b n h g r (Fin.last 640) (le_refl _)).trans hκ
  · intro j
    rcases E j with ⟨a, a'⟩ | ⟨⟨x, a, a'⟩, _⟩
    · exact fun hh => bot_ne_top (a.symm.trans hh)
    · exact fun hh => EReal.coe_ne_top x (a.symm.trans hh)
  · intro j
    rcases E j with ⟨a, a'⟩ | ⟨_, hv⟩
    · exact Or.inl a
    · exact Or.inr hv
  · refine (Fin.sum_univ_add (a := 384) (b := 256) _).trans ?_
    unfold mixAt
    refine congrArg₂ (· + ·) (Finset.sum_congr rfl fun j _ => ?_) (Finset.sum_congr rfl fun j _ => ?_)
    · have hv : valAt v vc b n h d (Fin.castAdd 256 j) = ReferenceIdeal.Att.band v (ix5 b n j h d) := by
        unfold valAt
        exact dif_pos j.isLt
      rw [hv, ReferenceIdeal.Att.prob_apply]
      simp only [ReferenceIdeal.Att.ex_apply]
      rfl
    · have hv : valAt v vc b n h d (Fin.natAdd 384 j) = vc (ix4 b j h d) := by
        unfold valAt
        rw [dif_neg (by simp)]
        exact congrArg (fun i => vc (ix4 b i h d)) (Fin.ext (by simp))
      rw [hv, ReferenceIdeal.Att.prob_apply]
      simp only [ReferenceIdeal.Att.ex_apply]
      rfl
end
end Cert.KernelIdeal.Att
end
-- ==== Proof.AttBlk.lean ====
module

public import proofs.«01_k».proof.Proof.Gen.KernelIdeal.Value
public import proofs.«01_k».proof.Proof.AttCore

/-!
The blocks one grid point of the kernel is given, read from the six arguments, and its mask.
-/
@[expose] public section

set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
variable (m : (ℓ : Loc nD τ sig) → Buf (Elt Ideal) ℓ)

theorem idx : ∀ t : Fin cfg0.N, win0_0.index t = ![t.val / 64, t.val % 64, 0]
    ∧ win0_1.index t = ![t.val / 64, t.val % 64 - 1, 2]
    ∧ win0_2.index t = ![t.val / 64, t.val % 64, 2]
    ∧ win0_3.index t = ![t.val / 64, min (t.val % 64 + 1) 63, 2]
    ∧ win0_4.index t = ![t.val / 64, 0, 2]
    ∧ win0_5.index t = ![0, 0]
    ∧ win0_6.index t = ![t.val / 64, t.val % 64, 0] :=
  (by decide +kernel : ∀ t : Fin grid0.N, _)

theorem ld3 (X : Vec Ideal S1x128x512 .bf16) (off : ℕ) (hoff : off + 64 ≤ 512) (inb) (j : Fin 128) (d : Fin 64) :
    View.ld X (Rect.unit ![0, 0, off] ![1, 128, 64] inb) (ix3 (0 : Fin 1) j d) = X (ix3 0 j ⟨off + d.val, by omega⟩) := by
  rw [View.ld_apply]
  refine congrArg X (funext fun a => Fin.ext ?_)
  rw [Rect.idx_unit_val]
  match a with
  | ⟨0, _⟩ => rfl
  | ⟨1, _⟩ => exact (show 0 + j.val = j.val by omega)
  | ⟨2, _⟩ => rfl

theorem ld3c (X : Vec Ideal S1x256x512 .bf16) (off : ℕ) (hoff : off + 64 ≤ 512) (inb) (j : Fin 256) (d : Fin 64) :
    View.ld X (Rect.unit ![0, 0, off] ![1, 256, 64] inb) (ix3 (0 : Fin 1) j d) = X (ix3 0 j ⟨off + d.val, by omega⟩) := by
  rw [View.ld_apply]
  refine congrArg X (funext fun a => Fin.ext ?_)
  rw [Rect.idx_unit_val]
  match a with
  | ⟨0, _⟩ => rfl
  | ⟨1, _⟩ => exact (show 0 + j.val = j.val by omega)
  | ⟨2, _⟩ => rfl

theorem ld1 (X : Vec Ideal S1x16 .f32) (off : ℕ) (hoff : off < 16) (inb) (hn) :
    View.ld X (Rect.unit ![0, off] ![1, 1] inb) (Shape.Idx.first hn) = X (ix2 0 ⟨off, hoff⟩) := by
  rw [View.ld_apply]
  refine congrArg X (funext fun a => Fin.ext ?_)
  rw [Rect.idx_unit_val]
  match a with
  | ⟨0, _⟩ => rfl
  | ⟨1, _⟩ => rfl

/-- Queries (scaled), keys and values laid side by side in one array. -/
def packed (q : FVec Ideal S2x8192x16x64 .f32) (k v : FVec Ideal S2x8192x4x64 .f32) : FVec Ideal S2x8192x1536 .bf16 :=
  concatenate S2x8192x1536 2 [⟨S2x8192x1024, (shapeCast S2x8192x1024 (truncf .bf16 (mulf q (broadcastInDim S2x8192x16x64 ![] bcast_S_S2x8192x16x64 (constant S_ .f32 0x3E000000#32 : FVec Ideal S_ .f32))) bitsLt_bf16_f32 : FVec Ideal S2x8192x16x64 .bf16) shapeCasts_S2x8192x16x64_S2x8192x1024 : FVec Ideal S2x8192x1024 .bf16)⟩,
    ⟨S2x8192x256, (shapeCast S2x8192x256 (truncf .bf16 k bitsLt_bf16_f32 : FVec Ideal S2x8192x4x64 .bf16) shapeCasts_S2x8192x4x64_S2x8192x256 : FVec Ideal S2x8192x256 .bf16)⟩,
    ⟨S2x8192x256, (shapeCast S2x8192x256 (truncf .bf16 v bitsLt_bf16_f32 : FVec Ideal S2x8192x4x64 .bf16) shapeCasts_S2x8192x4x64_S2x8192x256 : FVec Ideal S2x8192x256 .bf16)⟩]
    concatenates_S2x8192x1024_S2x8192x256_S2x8192x256_S2x8192x1536_d2

/-- The extra keys and values, packed behind a stretch of zeros of the queries' width. -/
def packedC (k v : FVec Ideal S2x256x4x64 .f32) : FVec Ideal S2x256x1536 .bf16 :=
  concatenate S2x256x1536 2 [⟨S2x256x1024, (broadcastInDim S2x256x1024 ![] bcast_S_S2x256x1024 (constant S_ .bf16 0x0000#16 : FVec Ideal S_ .bf16) : FVec Ideal S2x256x1024 .bf16)⟩,
    ⟨S2x256x256, (shapeCast S2x256x256 (truncf .bf16 k bitsLt_bf16_f32 : FVec Ideal S2x256x4x64 .bf16) shapeCasts_S2x256x4x64_S2x256x256 : FVec Ideal S2x256x256 .bf16)⟩,
    ⟨S2x256x256, (shapeCast S2x256x256 (truncf .bf16 v bitsLt_bf16_f32 : FVec Ideal S2x256x4x64 .bf16) shapeCasts_S2x256x4x64_S2x256x256 : FVec Ideal S2x256x256 .bf16)⟩]
    concatenates_S2x256x1024_S2x256x256_S2x256x256_S2x256x1536_d2

set_option maxHeartbeats 1000000 in
theorem v8 (c : Dev nD) : V m c main_v8 = packed (m ((c : Thread nD τ).loc main_arg0)) (m ((c : Thread nD τ).loc main_arg1)) (m ((c : Thread nD τ).loc main_arg2)) := by
  rfl

set_option maxHeartbeats 1000000 in
theorem v14 (c : Dev nD) : V m c main_v14 = packedC (m ((c : Thread nD τ).loc main_arg3)) (m ((c : Thread nD τ).loc main_arg4)) := by
  rfl

theorem packed_q (q k v) (b : Fin 2) (l : Fin 8192) (x : Fin 1536) (hx : x.val < 1024) :
    packed q k v (ix3 b l x) = @HMul.hMul EReal EReal EReal _ (q (ix4 b l ⟨x.val / 64, by omega⟩ ⟨x.val % 64, by omega⟩)) ((1/8 : ℝ) : EReal) := by
  pointwise [packed]
  rw [dif_pos (by omega), ReferenceIdeal.Att.ofBits_eighth]

theorem packed_k (q k v) (b : Fin 2) (l : Fin 8192) (x : Fin 256) :
    packed q k v (ix3 b l ⟨1024 + x.val, by omega⟩) = k (ix4 b l ⟨x.val / 64, by omega⟩ ⟨x.val % 64, by omega⟩) := by
  pointwise [packed]

theorem packed_v (q k v) (b : Fin 2) (l : Fin 8192) (x : Fin 256) :
    packed q k v (ix3 b l ⟨1280 + x.val, by omega⟩) = v (ix4 b l ⟨x.val / 64, by omega⟩ ⟨x.val % 64, by omega⟩) := by
  pointwise [packed]
  rw [dif_neg (by omega), dif_neg (by omega)]
  simp only [show 1280 + x.val - 1024 - 256 = x.val by omega]

theorem packedC_k (k v) (b : Fin 2) (l : Fin 256) (x : Fin 256) :
    packedC k v (ix3 b l ⟨1024 + x.val, by omega⟩) = k (ix4 b l ⟨x.val / 64, by omega⟩ ⟨x.val % 64, by omega⟩) := by
  pointwise [packedC]

theorem packedC_v (k v) (b : Fin 2) (l : Fin 256) (x : Fin 256) :
    packedC k v (ix3 b l ⟨1280 + x.val, by omega⟩) = v (ix4 b l ⟨x.val / 64, by omega⟩ ⟨x.val % 64, by omega⟩) := by
  pointwise [packedC]
  rw [dif_neg (by omega), dif_neg (by omega)]
  simp only [show 1280 + x.val - 1024 - 256 = x.val by omega]

abbrev bt (t : Fin cfg0.N) : Fin 2 := ⟨t.val / 64, by have := t.isLt; change _ < 128 at this; omega⟩
abbrev nt (t : Fin cfg0.N) : Fin 64 := ⟨t.val % 64, by omega⟩

theorem prev_at (c : Dev nD) (t : Fin cfg0.N) (j : Fin 128) (x : Fin 512) (hn : 0 < t.val % 64) :
    iblk m c 1 t (ix3 0 j x) = V m c main_v8 (ix3 (bt t) ⟨(t.val % 64 - 1) * 128 + j.val, by omega⟩ ⟨1024 + x.val, by omega⟩) := by
  blk_simp [iblk]
  blk_ext [idx t]

theorem here_at (c : Dev nD) (t : Fin cfg0.N) (j : Fin 128) (x : Fin 512) :
    iblk m c 2 t (ix3 0 j x) = V m c main_v8 (ix3 (bt t) ⟨t.val % 64 * 128 + j.val, by omega⟩ ⟨1024 + x.val, by omega⟩) := by
  blk_simp [iblk]
  blk_ext [idx t]

theorem next_at (c : Dev nD) (t : Fin cfg0.N) (j : Fin 128) (x : Fin 512) (hn : t.val % 64 < 63) :
    iblk m c 3 t (ix3 0 j x) = V m c main_v8 (ix3 (bt t) ⟨(t.val % 64 + 1) * 128 + j.val, by omega⟩ ⟨1024 + x.val, by omega⟩) := by
  have hmin : min (t.val % 64 + 1) 63 = t.val % 64 + 1 := by omega
  have hix : win0_3.index t = ![t.val / 64, t.val % 64 + 1, 2] := by rw [(idx t).2.2.2.1, hmin]
  blk_simp [iblk]
  blk_ext [hix]

theorem ctx_at (c : Dev nD) (t : Fin cfg0.N) (j : Fin 256) (x : Fin 512) :
    iblk m c 4 t (ix3 0 j x) = V m c main_v14 (ix3 (bt t) j ⟨1024 + x.val, by omega⟩) := by
  blk_simp [iblk]
  blk_ext [idx t]

theorem q_at (c : Dev nD) (t : Fin cfg0.N) (r : Fin 128) (x : Fin 1024) :
    X0_0 m c t (ix3 0 r x) = V m c main_v8 (ix3 (bt t) ⟨t.val % 64 * 128 + r.val, by omega⟩ ⟨x.val, by omega⟩) := by
  unfold X0_0 Pipeline.Window.fill
  rw [dif_pos (moved0_0 t _)]
  blk_simp [iblk]
  blk_ext [idx t]

theorem sink_at (c : Dev nD) (t : Fin cfg0.N) (x : Fin 16) :
    iblk m c 5 t (ix2 0 x) = m ((c : Thread nD τ).loc main_arg5) (ix1 x) := by
  have e : V m c main_v15 = (broadcastInDim S1x16 ![1] bcast_S16_S1x16_1 (m ((c : Thread nD τ).loc main_arg5)) : FVec Ideal S1x16 .f32) := by rfl
  have e2 : iblk m c 5 t (ix2 0 x) = V m c main_v15 (ix2 0 x) := by
    blk_simp [iblk]
    blk_ext [idx t]
  rw [e2, e]
  pointwise

theorem q_val (c : Dev nD) (t : Fin cfg0.N) (r : Fin 128) (x : Fin 1024) :
    X0_0 m c t (ix3 0 r x) = @HMul.hMul EReal EReal EReal _ (m ((c : Thread nD τ).loc main_arg0)
      (ix4 (bt t) ⟨t.val % 64 * 128 + r.val, by omega⟩ ⟨x.val / 64, by omega⟩ ⟨x.val % 64, by omega⟩)) ((1/8 : ℝ) : EReal) := by
  rw [q_at, v8, packed_q _ _ _ _ _ _ (by exact x.isLt)]

/-- The keys of one head, as the loads at column `64 * h` bring them. -/
theorem holds_k (c : Dev nD) (t : Fin cfg0.N) (h : Fin 4) (off : ℕ) (ho : off = 64 * h.val) (i1 i2) :
    Holds (bt t) (nt t) h (m ((c : Thread nD τ).loc main_arg1)) (m ((c : Thread nD τ).loc main_arg3))
      (View.ld (iblk m c 1 t : Vec Ideal S1x128x512 .bf16) (Rect.unit ![0, 0, off] ![1, 128, 64] i1))
      (View.ld (iblk m c 2 t : Vec Ideal S1x128x512 .bf16) (Rect.unit ![0, 0, off] ![1, 128, 64] i1))
      (View.ld (iblk m c 3 t : Vec Ideal S1x128x512 .bf16) (Rect.unit ![0, 0, off] ![1, 128, 64] i1))
      (View.ld (iblk m c 4 t : Vec Ideal S1x256x512 .bf16) (Rect.unit ![0, 0, off] ![1, 256, 64] i2)) := by
  subst ho
  have hh := h.isLt
  have e1 : ∀ (d : Fin 64) (p), (⟨(64 * h.val + d.val) / 64, p⟩ : Fin 4) = h := fun d p => Fin.ext (by simp only []; omega)
  have e2 : ∀ (d : Fin 64) (p), (⟨(64 * h.val + d.val) % 64, p⟩ : Fin 64) = d := fun d p => Fin.ext (by simp only []; omega)
  constructor
  · intro j d hn
    rw [ld3 _ _ (by omega), prev_at m c t _ _ hn, v8]
    exact (packed_k _ _ _ _ _ ⟨64 * h.val + d.val, by omega⟩).trans (by rw [e1, e2])
  · intro j d
    rw [ld3 _ _ (by omega), here_at m c t _ _, v8]
    exact (packed_k _ _ _ _ _ ⟨64 * h.val + d.val, by omega⟩).trans (by rw [e1, e2])
  · intro j d hn
    rw [ld3 _ _ (by omega), next_at m c t _ _ hn, v8]
    exact (packed_k _ _ _ _ _ ⟨64 * h.val + d.val, by omega⟩).trans (by rw [e1, e2])
  · intro j d
    rw [ld3c _ _ (by omega), ctx_at m c t _ _, v14]
    exact (packedC_k _ _ _ _ ⟨64 * h.val + d.val, by omega⟩).trans (by rw [e1, e2])

/-- The values of one head, as the loads at column `256 + 64 * h` bring them. -/
theorem holds_v (c : Dev nD) (t : Fin cfg0.N) (h : Fin 4) (off : ℕ) (ho : off = 256 + 64 * h.val) (i1 i2) :
    Holds (bt t) (nt t) h (m ((c : Thread nD τ).loc main_arg2)) (m ((c : Thread nD τ).loc main_arg4))
      (View.ld (iblk m c 1 t : Vec Ideal S1x128x512 .bf16) (Rect.unit ![0, 0, off] ![1, 128, 64] i1))
      (View.ld (iblk m c 2 t : Vec Ideal S1x128x512 .bf16) (Rect.unit ![0, 0, off] ![1, 128, 64] i1))
      (View.ld (iblk m c 3 t : Vec Ideal S1x128x512 .bf16) (Rect.unit ![0, 0, off] ![1, 128, 64] i1))
      (View.ld (iblk m c 4 t : Vec Ideal S1x256x512 .bf16) (Rect.unit ![0, 0, off] ![1, 256, 64] i2)) := by
  subst ho
  have hh := h.isLt
  have e1 : ∀ (d : Fin 64) (p), (⟨(64 * h.val + d.val) / 64, p⟩ : Fin 4) = h := fun d p => Fin.ext (by simp only []; omega)
  have e2 : ∀ (d : Fin 64) (p), (⟨(64 * h.val + d.val) % 64, p⟩ : Fin 64) = d := fun d p => Fin.ext (by simp only []; omega)
  have cc : ∀ (d : Fin 64) (p), (⟨1024 + (256 + 64 * h.val + d.val), p⟩ : Fin 1536) = ⟨1280 + (64 * h.val + d.val), by omega⟩ := fun d p => Fin.ext (by simp <;> omega)
  constructor
  · intro j d hn
    rw [ld3 _ _ (by omega), prev_at m c t _ _ hn, v8, cc]
    exact (packed_v _ _ _ _ _ ⟨64 * h.val + d.val, by omega⟩).trans (by rw [e1, e2])
  · intro j d
    rw [ld3 _ _ (by omega), here_at m c t _ _, v8, cc]
    exact (packed_v _ _ _ _ _ ⟨64 * h.val + d.val, by omega⟩).trans (by rw [e1, e2])
  · intro j d hn
    rw [ld3 _ _ (by omega), next_at m c t _ _ hn, v8, cc]
    exact (packed_v _ _ _ _ _ ⟨64 * h.val + d.val, by omega⟩).trans (by rw [e1, e2])
  · intro j d
    rw [ld3c _ _ (by omega), ctx_at m c t _ _, v14, cc]
    exact (packedC_v _ _ _ _ ⟨64 * h.val + d.val, by omega⟩).trans (by rw [e1, e2])

end Cert.KernelIdeal.Att
end
-- ==== Proof.AttMask.lean ====
module

public import proofs.«01_k».proof.Proof.Gen.KernelIdeal.Value
public import proofs.«01_k».proof.Proof.AttCore

/-!
The kernel's mask, entry by entry: the same rows of keys the reference lets a query see.
-/
@[expose] public section

set_option maxRecDepth 16384
noncomputable section
open Idealize.ShloMosaic Idealize.ShloMosaic.TcCoe Idealize.SL.Sem
namespace Cert.KernelIdeal.Att
open Cert.KernelIdeal Cert.KernelIdeal.Gen

theorem coord : ∀ t : Fin cfg0.N, ((grid0.coords t) 1).val = t.val % 64 :=
  (by decide +kernel : ∀ t : Fin grid0.N, _)

/-- A stacked row's place within its block of 128. -/
theorem rem_row : ∀ r : Fin 512, Scalar.select (IntOp.andi (IntOp.xori (IntOp.cmpi CmpIPredicate.slt (IntOp.remsi ArithUnit.vector (BitVec.ofNat 32 ↑r) (Scalar.select (Scalar.cmpi CmpIPredicate.eq 128#32 0#32) 1#32 128#32)) 0#32) (Scalar.cmpi CmpIPredicate.slt (Scalar.select (Scalar.cmpi CmpIPredicate.eq 128#32 0#32) 1#32 128#32) 0#32)) (IntOp.cmpi CmpIPredicate.ne (IntOp.remsi ArithUnit.vector (BitVec.ofNat 32 ↑r) (Scalar.select (Scalar.cmpi CmpIPredicate.eq 128#32 0#32) 1#32 128#32)) 0#32)) (IntOp.addi (IntOp.remsi ArithUnit.vector (BitVec.ofNat 32 ↑r) (Scalar.select (Scalar.cmpi CmpIPredicate.eq 128#32 0#32) 1#32 128#32)) (Scalar.select (Scalar.cmpi CmpIPredicate.eq 128#32 0#32) 1#32 128#32)) (IntOp.remsi ArithUnit.vector (BitVec.ofNat 32 ↑r) (Scalar.select (Scalar.cmpi CmpIPredicate.eq 128#32 0#32) 1#32 128#32)) = BitVec.ofNat 32 (r.val % 128) := by decide +kernel

theorem toInt_small (a : ℕ) (h : a < 2000) : (BitVec.ofNat 32 a).toInt = a := by
  have e : (BitVec.ofNat 32 a).toNat = a := by rw [BitVec.toNat_ofNat]; omega
  rw [BitVec.toInt_eq_toNat_of_lt (by rw [e]; omega), e]

theorem ge_small (a b : ℕ) (ha : a < 2000) (hb : b < 2000) :
    IntOp.cmpi CmpIPredicate.sge (BitVec.ofNat 32 a) (BitVec.ofNat 32 b) = BitVec.ofBool (decide (b ≤ a)) := by
  simp only [IntOp.cmpi, BitVec.sle, toInt_small _ ha, toInt_small _ hb, Nat.cast_le]

theorem le_small (a b : ℕ) (ha : a < 2000) (hb : b < 2000) :
    IntOp.cmpi CmpIPredicate.sle (BitVec.ofNat 32 a) (BitVec.ofNat 32 b) = BitVec.ofBool (decide (a ≤ b)) := by
  simp only [IntOp.cmpi, BitVec.sle, toInt_small _ ha, toInt_small _ hb, Nat.cast_le]

theorem lt_small (a b : ℕ) (ha : a < 2000) (hb : b < 2000) :
    IntOp.cmpi CmpIPredicate.slt (BitVec.ofNat 32 a) (BitVec.ofNat 32 b) = BitVec.ofBool (decide (a < b)) := by
  simp only [IntOp.cmpi, BitVec.slt, toInt_small _ ha, toInt_small _ hb, Nat.cast_lt]

theorem slt_small (a b : ℕ) (ha : a < 2000) (hb : b < 2000) :
    Scalar.cmpi CmpIPredicate.slt (BitVec.ofNat 32 a) (BitVec.ofNat 32 b) = BitVec.ofBool (decide (a < b)) := lt_small a b ha hb

theorem sgt_small (a b : ℕ) (ha : a < 2000) (hb : b < 2000) :
    Scalar.cmpi CmpIPredicate.sgt (BitVec.ofNat 32 a) (BitVec.ofNat 32 b) = BitVec.ofBool (decide (b < a)) := by
  show IntOp.cmpi _ _ _ = _
  simp only [IntOp.cmpi, BitVec.slt, toInt_small _ ha, toInt_small _ hb, Nat.cast_lt]

/-- Entry `(r, j)` of the mask: key `j` of the window is seen by row `r % 128` of the block, and the context always. -/
theorem mask_apply (t : Fin cfg0.N) (r : Fin 512) (j : Fin 640) :
    k0_pay2 (grid0.coords t) (ix2 r j)
      = BitVec.ofBool (decide (Sees ⟨t.val % 64, by omega⟩ ⟨r.val % 128, by omega⟩ j.val ∨ 384 ≤ j.val)) := by
  pointwise [k0_pay2]
  rw [coord, rem_row]
  have hj := j.isLt
  have hadd : IntOp.addi (BitVec.ofNat 32 (r.val % 128)) 256#32 = BitVec.ofNat 32 (r.val % 128 + 256) := by
    simp only [IntOp.addi, ← BitVec.ofNat_add]
  rw [hadd, ge_small _ _ (by omega) (by omega), le_small _ _ (by omega) (by omega), ge_small j.val 128 (by omega) (by omega),
    sgt_small _ 0 (by omega) (by omega), lt_small j.val 256 (by omega) (by omega), slt_small _ 63 (by omega) (by omega),
    ge_small j.val 384 (by omega) (by omega)]
  simp only [IntOp.andi, IntOp.ori, BitVec.ofBool_and_ofBool, BitVec.ofBool_or_ofBool]
  congr 1
  simp only [← Bool.decide_and, ← Bool.decide_or]
  apply decide_eq_decide.mpr
  unfold Sees
  tauto
end Cert.KernelIdeal.Att
end
-- ==== Proof.AttValue.lean ====
module

public import proofs.«01_k».proof.Proof.AttBlk
public import proofs.«01_k».proof.Proof.AttMask

/-!
The attention kernel's result array is the reference's result, at real-valued queries, keys and sinks.
-/
@[expose] public section

set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
variable (m : (ℓ : Loc nD τ sig) → Buf (Elt Ideal) ℓ)

/-- The reference's result from the six arguments. -/
def want (c : Dev nD) : FVec Ideal S2x8192x1024 .bf16 :=
  ReferenceIdeal.Att.mix (ReferenceIdeal.Att.prob (ReferenceIdeal.Att.ex (ReferenceIdeal.Att.logits (m ((c : Thread nD τ).loc main_arg0))
    (m ((c : Thread nD τ).loc main_arg1)) (m ((c : Thread nD τ).loc main_arg3)) (m ((c : Thread nD τ).loc main_arg5)))))
    (m ((c : Thread nD τ).loc main_arg2)) (m ((c : Thread nD τ).loc main_arg4))

theorem emb_out (t : Fin cfg0.N) (y : ((cfg0.win 6).xblock (cfg0.grid.coords t)).Idx) (r : Fin 128) (x : Fin 1024)
    (hr : (y 1).val = r.val) (hx : (y 2).val = x.val) :
    ((View.whole main_v16).slice (win0_6.rect t)).emb y = ix3 (bt t) (⟨t.val % 64 * 128 + r.val, by omega⟩ : Fin 8192) x := by
  blk_ext [idx t]

theorem slice_q (X : FVec Ideal S1x128x1024 .bf16) (off : ℕ) (hoff : off + 64 ≤ 1024) (hs) (r : Fin 128) (x : Fin 64) :
    (extractStridedSlice S128x64 ![0, off] (k0_pay6 X) hs : FVec Ideal S128x64 .bf16) (ix2 r x) = X (ix3 0 r ⟨off + x.val, by omega⟩) := by
  pointwise [k0_pay6]

/-- Head `h`'s four query heads at one point of the output. -/
theorem at_out (c : Dev nD) (hq : IsReal (m ((c : Thread nD τ).loc main_arg0))) (hk : IsReal (m ((c : Thread nD τ).loc main_arg1)))
    (hkc : IsReal (m ((c : Thread nD τ).loc main_arg3))) (hsk : IsReal (m ((c : Thread nD τ).loc main_arg5)))
    (t : Fin cfg0.N) (h : Fin 4) (qa qb qc qd : FVec Ideal S128x64 .bf16)
    (ha : ∀ (r : Fin 128) (x : Fin 64), qa (ix2 r x) = X0_0 m c t (ix3 0 r ⟨256 * h.val + x.val, by omega⟩))
    (hb : ∀ (r : Fin 128) (x : Fin 64), qb (ix2 r x) = X0_0 m c t (ix3 0 r ⟨256 * h.val + 64 + x.val, by omega⟩))
    (hc : ∀ (r : Fin 128) (x : Fin 64), qc (ix2 r x) = X0_0 m c t (ix3 0 r ⟨256 * h.val + 128 + x.val, by omega⟩))
    (hd : ∀ (r : Fin 128) (x : Fin 64), qd (ix2 r x) = X0_0 m c t (ix3 0 r ⟨256 * h.val + 192 + x.val, by omega⟩))
    (ka kb kd : FVec Ideal S1x128x64 .bf16) (kx : FVec Ideal S1x256x64 .bf16) (va vb vd : FVec Ideal S1x128x64 .bf16) (vx : FVec Ideal S1x256x64 .bf16)
    (hK : Holds (bt t) (nt t) h (m ((c : Thread nD τ).loc main_arg1)) (m ((c : Thread nD τ).loc main_arg3)) ka kb kd kx)
    (hV : Holds (bt t) (nt t) h (m ((c : Thread nD τ).loc main_arg2)) (m ((c : Thread nD τ).loc main_arg4)) va vb vd vx)
    (s0 s1 s2 s3 : EReal)
    (h0 : s0 = m ((c : Thread nD τ).loc main_arg5) (ix1 ⟨4 * h.val, by omega⟩))
    (h1 : s1 = m ((c : Thread nD τ).loc main_arg5) (ix1 ⟨4 * h.val + 1, by omega⟩))
    (h2 : s2 = m ((c : Thread nD τ).loc main_arg5) (ix1 ⟨4 * h.val + 2, by omega⟩))
    (h3 : s3 = m ((c : Thread nD τ).loc main_arg5) (ix1 ⟨4 * h.val + 3, by omega⟩))
    (y : S1x128x256.Idx) (y' : ((cfg0.win 6).xblock (cfg0.grid.coords t)).Idx)
    (e1 : (y' 1).val = (y 1).val) (e2 : (y' 2).val = 256 * h.val + (y 2).val) :
    attend (k0_pay2 (grid0.coords t)) headRow (cat4 qa qb qc qd) (stack ka kb kd kx) (stack va vb vd vx) s0 s1 s2 s3 y
      = want m c (((View.whole main_v16).slice (win0_6.rect t)).emb y') := by
  have l1 : (y 1).val < 128 := (y 1).isLt
  have l2 : (y 2).val < 256 := (y 2).isLt
  have l0 : (y 0).val < 1 := (y 0).isLt
  have hh := h.isLt
  have ey : y = ix3 (0 : Fin 1) (⟨(y 1).val, l1⟩ : Fin 128) (⟨64 * ((y 2).val / 64) + (y 2).val % 64, by omega⟩ : Fin 256) := by
    funext a
    match a with
    | ⟨0, _⟩ => exact Fin.ext (by show (y 0).val = 0; omega)
    | ⟨1, _⟩ => rfl
    | ⟨2, _⟩ => exact Fin.ext (by show (y 2).val = 64 * ((y 2).val / 64) + (y 2).val % 64; omega)
  rw [emb_out t y' ⟨(y 1).val, l1⟩ ⟨256 * h.val + (64 * ((y 2).val / 64) + (y 2).val % 64), by omega⟩ e1 (by simp only [e2]; omega)]
  refine (congrArg _ ey).trans ?_
  refine core (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    hq hk hkc hsk ?_ (Q := ![qa, qb, qc, qd]) ?_ hK hV ![s0, s1, s2, s3] ?_ ⟨(y 2).val / 64, by omega⟩ ⟨(y 1).val, l1⟩ ⟨(y 2).val % 64, by omega⟩
  · intro g r j
    rw [mask_apply]
    have : (⟨(128 * g.val + r.val) % 128, by omega⟩ : Fin 128) = r := Fin.ext (by simp only []; omega)
    rw [this]
  · intro g r x
    have hg := g.isLt
    have key : (![qa, qb, qc, qd] g) (ix2 r x) = X0_0 m c t (ix3 0 r ⟨256 * h.val + 64 * g.val + x.val, by omega⟩) := by
      fin_cases g
      · exact ha r x
      · exact hb r x
      · exact hc r x
      · exact hd r x
    rw [key, q_val]
    have i1 : (⟨(256 * h.val + 64 * g.val + x.val) / 64, by omega⟩ : Fin 16) = ⟨h.val * 4 + g.val, by omega⟩ := Fin.ext (by simp only []; omega)
    have i2 : (⟨(256 * h.val + 64 * g.val + x.val) % 64, by omega⟩ : Fin 64) = x := Fin.ext (by simp only []; omega)
    rw [i1, i2]
  · intro g
    fin_cases g
    · exact h0.trans (congrArg (m ((c : Thread nD τ).loc main_arg5)) (congrArg ix1 (Fin.ext (by simp only []; omega))))
    · exact h1.trans (congrArg (m ((c : Thread nD τ).loc main_arg5)) (congrArg ix1 (Fin.ext (by simp only []; omega))))
    · exact h2.trans (congrArg (m ((c : Thread nD τ).loc main_arg5)) (congrArg ix1 (Fin.ext (by simp only []; omega))))
    · exact h3.trans (congrArg (m ((c : Thread nD τ).loc main_arg5)) (congrArg ix1 (Fin.ext (by simp only []; omega))))

theorem sink (c : Dev nD) (t : Fin cfg0.N) (k : ℕ) (hk : k < 16) (inb) (hn) :
    (View.ld (iblk m c 5 t : Vec Ideal S1x16 .f32) (Rect.unit ![0, k] ![1, 1] inb) (Shape.Idx.first hn) : EReal)
      = m ((c : Thread nD τ).loc main_arg5) (ix1 ⟨k, hk⟩) := by
  rw [ld1 _ _ hk, sink_at]

set_option maxHeartbeats 2000000 in
theorem final (c : Dev nD) (hq : IsReal (m ((c : Thread nD τ).loc main_arg0))) (hk : IsReal (m ((c : Thread nD τ).loc main_arg1)))
    (hkc : IsReal (m ((c : Thread nD τ).loc main_arg3))) (hsk : IsReal (m ((c : Thread nD τ).loc main_arg5))) :
    (dats m 0 c).arrAt 6 (cfgs 0).N = want m c := by
  refine (dats m 0 c).arrAt_eq_of_covers 6 _ (by decide +kernel) fun t hf y => ?_
  blk_simp; rw [after0_6]
  unfold outsAt0
  frame_out
  canon_tiles y h
  case piece0 =>
    refine Eq.trans (b := attend (k0_pay2 (grid0.coords t)) headRow (cat4 (extractStridedSlice S128x64 ![0, 768] (k0_pay6 (X0_0 m c t)) slices_S128x1024_o0_768_S128x64) (extractStridedSlice S128x64 ![0, 832] (k0_pay6 (X0_0 m c t)) slices_S128x1024_o0_832_S128x64) (extractStridedSlice S128x64 ![0, 896] (k0_pay6 (X0_0 m c t)) slices_S128x1024_o0_896_S128x64) (extractStridedSlice S128x64 ![0, 960] (k0_pay6 (X0_0 m c t)) slices_S128x1024_o0_960_S128x64)) (stack (View.ld (iblk m c 1 t : Vec Ideal S1x128x512 .bf16) (Rect.unit ![0, 0, 192] ![1, 128, 64] inb_S1x128x512_S1x128x64_0_0_192)) (View.ld (iblk m c 2 t : Vec Ideal S1x128x512 .bf16) (Rect.unit ![0, 0, 192] ![1, 128, 64] inb_S1x128x512_S1x128x64_0_0_192)) (View.ld (iblk m c 3 t : Vec Ideal S1x128x512 .bf16) (Rect.unit ![0, 0, 192] ![1, 128, 64] inb_S1x128x512_S1x128x64_0_0_192)) (View.ld (iblk m c 4 t : Vec Ideal S1x256x512 .bf16) (Rect.unit ![0, 0, 192] ![1, 256, 64] inb_S1x256x512_S1x256x64_0_0_192))) (stack (View.ld (iblk m c 1 t : Vec Ideal S1x128x512 .bf16) (Rect.unit ![0, 0, 448] ![1, 128, 64] inb_S1x128x512_S1x128x64_0_0_448)) (View.ld (iblk m c 2 t : Vec Ideal S1x128x512 .bf16) (Rect.unit ![0, 0, 448] ![1, 128, 64] inb_S1x128x512_S1x128x64_0_0_448)) (View.ld (iblk m c 3 t : Vec Ideal S1x128x512 .bf16) (Rect.unit ![0, 0, 448] ![1, 128, 64] inb_S1x128x512_S1x128x64_0_0_448)) (View.ld (iblk m c 4 t : Vec Ideal S1x256x512 .bf16) (Rect.unit ![0, 0, 448] ![1, 256, 64] inb_S1x256x512_S1x256x64_0_0_448))) (View.ld (iblk m c 5 t : Vec Ideal S1x16 .f32) (Rect.unit ![0, 12] ![1, 1] inb_S1x16_S1x1_0_12) (Shape.Idx.first (show 0 < Shape.numel ⟨2, ![1, 1]⟩ by decide))) (View.ld (iblk m c 5 t : Vec Ideal S1x16 .f32) (Rect.unit ![0, 13] ![1, 1] inb_S1x16_S1x1_0_13) (Shape.Idx.first (show 0 < Shape.numel ⟨2, ![1, 1]⟩ by decide))) (View.ld (iblk m c 5 t : Vec Ideal S1x16 .f32) (Rect.unit ![0, 14] ![1, 1] inb_S1x16_S1x1_0_14) (Shape.Idx.first (show 0 < Shape.numel ⟨2, ![1, 1]⟩ by decide))) (View.ld (iblk m c 5 t : Vec Ideal S1x16 .f32) (Rect.unit ![0, 15] ![1, 1] inb_S1x16_S1x1_0_15) (Shape.Idx.first (show 0 < Shape.numel ⟨2, ![1, 1]⟩ by decide))) y) ?_ ?_
    · rfl
    · exact at_out m c hq hk hkc hsk t 3 _ _ _ _ (fun r x => slice_q (X0_0 m c t) 768 (by decide) _ r x) (fun r x => slice_q (X0_0 m c t) 832 (by decide) _ r x) (fun r x => slice_q (X0_0 m c t) 896 (by decide) _ r x) (fun r x => slice_q (X0_0 m c t) 960 (by decide) _ r x)
        _ _ _ _ _ _ _ _ (holds_k m c t 3 _ rfl _ _) (holds_v m c t 3 _ rfl _ _) _ _ _ _ (sink m c t 12 (by decide) _ _) (sink m c t 13 (by decide) _ _) (sink m c t 14 (by decide) _ _) (sink m c t 15 (by decide) _ _) y _ h1 (h2.trans (by simp only []; omega))
  case piece1 =>
    refine Eq.trans (b := attend (k0_pay2 (grid0.coords t)) headRow (cat4 (extractStridedSlice S128x64 ![0, 512] (k0_pay6 (X0_0 m c t)) slices_S128x1024_o0_512_S128x64) (extractStridedSlice S128x64 ![0, 576] (k0_pay6 (X0_0 m c t)) slices_S128x1024_o0_576_S128x64) (extractStridedSlice S128x64 ![0, 640] (k0_pay6 (X0_0 m c t)) slices_S128x1024_o0_640_S128x64) (extractStridedSlice S128x64 ![0, 704] (k0_pay6 (X0_0 m c t)) slices_S128x1024_o0_704_S128x64)) (stack (View.ld (iblk m c 1 t : Vec Ideal S1x128x512 .bf16) (Rect.unit ![0, 0, 128] ![1, 128, 64] inb_S1x128x512_S1x128x64_0_0_128)) (View.ld (iblk m c 2 t : Vec Ideal S1x128x512 .bf16) (Rect.unit ![0, 0, 128] ![1, 128, 64] inb_S1x128x512_S1x128x64_0_0_128)) (View.ld (iblk m c 3 t : Vec Ideal S1x128x512 .bf16) (Rect.unit ![0, 0, 128] ![1, 128, 64] inb_S1x128x512_S1x128x64_0_0_128)) (View.ld (iblk m c 4 t : Vec Ideal S1x256x512 .bf16) (Rect.unit ![0, 0, 128] ![1, 256, 64] inb_S1x256x512_S1x256x64_0_0_128))) (stack (View.ld (iblk m c 1 t : Vec Ideal S1x128x512 .bf16) (Rect.unit ![0, 0, 384] ![1, 128, 64] inb_S1x128x512_S1x128x64_0_0_384)) (View.ld (iblk m c 2 t : Vec Ideal S1x128x512 .bf16) (Rect.unit ![0, 0, 384] ![1, 128, 64] inb_S1x128x512_S1x128x64_0_0_384)) (View.ld (iblk m c 3 t : Vec Ideal S1x128x512 .bf16) (Rect.unit ![0, 0, 384] ![1, 128, 64] inb_S1x128x512_S1x128x64_0_0_384)) (View.ld (iblk m c 4 t : Vec Ideal S1x256x512 .bf16) (Rect.unit ![0, 0, 384] ![1, 256, 64] inb_S1x256x512_S1x256x64_0_0_384))) (View.ld (iblk m c 5 t : Vec Ideal S1x16 .f32) (Rect.unit ![0, 8] ![1, 1] inb_S1x16_S1x1_0_8) (Shape.Idx.first (show 0 < Shape.numel ⟨2, ![1, 1]⟩ by decide))) (View.ld (iblk m c 5 t : Vec Ideal S1x16 .f32) (Rect.unit ![0, 9] ![1, 1] inb_S1x16_S1x1_0_9) (Shape.Idx.first (show 0 < Shape.numel ⟨2, ![1, 1]⟩ by decide))) (View.ld (iblk m c 5 t : Vec Ideal S1x16 .f32) (Rect.unit ![0, 10] ![1, 1] inb_S1x16_S1x1_0_10) (Shape.Idx.first (show 0 < Shape.numel ⟨2, ![1, 1]⟩ by decide))) (View.ld (iblk m c 5 t : Vec Ideal S1x16 .f32) (Rect.unit ![0, 11] ![1, 1] inb_S1x16_S1x1_0_11) (Shape.Idx.first (show 0 < Shape.numel ⟨2, ![1, 1]⟩ by decide))) y) ?_ ?_
    · rfl
    · exact at_out m c hq hk hkc hsk t 2 _ _ _ _ (fun r x => slice_q (X0_0 m c t) 512 (by decide) _ r x) (fun r x => slice_q (X0_0 m c t) 576 (by decide) _ r x) (fun r x => slice_q (X0_0 m c t) 640 (by decide) _ r x) (fun r x => slice_q (X0_0 m c t) 704 (by decide) _ r x)
        _ _ _ _ _ _ _ _ (holds_k m c t 2 _ rfl _ _) (holds_v m c t 2 _ rfl _ _) _ _ _ _ (sink m c t 8 (by decide) _ _) (sink m c t 9 (by decide) _ _) (sink m c t 10 (by decide) _ _) (sink m c t 11 (by decide) _ _) y _ h1 (h2.trans (by simp only []; omega))
  case piece2 =>
    refine Eq.trans (b := attend (k0_pay2 (grid0.coords t)) headRow (cat4 (extractStridedSlice S128x64 ![0, 256] (k0_pay6 (X0_0 m c t)) slices_S128x1024_o0_256_S128x64) (extractStridedSlice S128x64 ![0, 320] (k0_pay6 (X0_0 m c t)) slices_S128x1024_o0_320_S128x64) (extractStridedSlice S128x64 ![0, 384] (k0_pay6 (X0_0 m c t)) slices_S128x1024_o0_384_S128x64) (extractStridedSlice S128x64 ![0, 448] (k0_pay6 (X0_0 m c t)) slices_S128x1024_o0_448_S128x64)) (stack (View.ld (iblk m c 1 t : Vec Ideal S1x128x512 .bf16) (Rect.unit ![0, 0, 64] ![1, 128, 64] inb_S1x128x512_S1x128x64_0_0_64)) (View.ld (iblk m c 2 t : Vec Ideal S1x128x512 .bf16) (Rect.unit ![0, 0, 64] ![1, 128, 64] inb_S1x128x512_S1x128x64_0_0_64)) (View.ld (iblk m c 3 t : Vec Ideal S1x128x512 .bf16) (Rect.unit ![0, 0, 64] ![1, 128, 64] inb_S1x128x512_S1x128x64_0_0_64)) (View.ld (iblk m c 4 t : Vec Ideal S1x256x512 .bf16) (Rect.unit ![0, 0, 64] ![1, 256, 64] inb_S1x256x512_S1x256x64_0_0_64))) (stack (View.ld (iblk m c 1 t : Vec Ideal S1x128x512 .bf16) (Rect.unit ![0, 0, 320] ![1, 128, 64] inb_S1x128x512_S1x128x64_0_0_320)) (View.ld (iblk m c 2 t : Vec Ideal S1x128x512 .bf16) (Rect.unit ![0, 0, 320] ![1, 128, 64] inb_S1x128x512_S1x128x64_0_0_320)) (View.ld (iblk m c 3 t : Vec Ideal S1x128x512 .bf16) (Rect.unit ![0, 0, 320] ![1, 128, 64] inb_S1x128x512_S1x128x64_0_0_320)) (View.ld (iblk m c 4 t : Vec Ideal S1x256x512 .bf16) (Rect.unit ![0, 0, 320] ![1, 256, 64] inb_S1x256x512_S1x256x64_0_0_320))) (View.ld (iblk m c 5 t : Vec Ideal S1x16 .f32) (Rect.unit ![0, 4] ![1, 1] inb_S1x16_S1x1_0_4) (Shape.Idx.first (show 0 < Shape.numel ⟨2, ![1, 1]⟩ by decide))) (View.ld (iblk m c 5 t : Vec Ideal S1x16 .f32) (Rect.unit ![0, 5] ![1, 1] inb_S1x16_S1x1_0_5) (Shape.Idx.first (show 0 < Shape.numel ⟨2, ![1, 1]⟩ by decide))) (View.ld (iblk m c 5 t : Vec Ideal S1x16 .f32) (Rect.unit ![0, 6] ![1, 1] inb_S1x16_S1x1_0_6) (Shape.Idx.first (show 0 < Shape.numel ⟨2, ![1, 1]⟩ by decide))) (View.ld (iblk m c 5 t : Vec Ideal S1x16 .f32) (Rect.unit ![0, 7] ![1, 1] inb_S1x16_S1x1_0_7) (Shape.Idx.first (show 0 < Shape.numel ⟨2, ![1, 1]⟩ by decide))) y) ?_ ?_
    · rfl
    · exact at_out m c hq hk hkc hsk t 1 _ _ _ _ (fun r x => slice_q (X0_0 m c t) 256 (by decide) _ r x) (fun r x => slice_q (X0_0 m c t) 320 (by decide) _ r x) (fun r x => slice_q (X0_0 m c t) 384 (by decide) _ r x) (fun r x => slice_q (X0_0 m c t) 448 (by decide) _ r x)
        _ _ _ _ _ _ _ _ (holds_k m c t 1 _ rfl _ _) (holds_v m c t 1 _ rfl _ _) _ _ _ _ (sink m c t 4 (by decide) _ _) (sink m c t 5 (by decide) _ _) (sink m c t 6 (by decide) _ _) (sink m c t 7 (by decide) _ _) y _ h1 (h2.trans (by simp only []; omega))
  case piece3 =>
    refine Eq.trans (b := attend (k0_pay2 (grid0.coords t)) headRow (cat4 (extractStridedSlice S128x64 ![0, 0] (k0_pay6 (X0_0 m c t)) slices_S128x1024_o0_0_S128x64) (extractStridedSlice S128x64 ![0, 64] (k0_pay6 (X0_0 m c t)) slices_S128x1024_o0_64_S128x64) (extractStridedSlice S128x64 ![0, 128] (k0_pay6 (X0_0 m c t)) slices_S128x1024_o0_128_S128x64) (extractStridedSlice S128x64 ![0, 192] (k0_pay6 (X0_0 m c t)) slices_S128x1024_o0_192_S128x64)) (stack (View.ld (iblk m c 1 t : Vec Ideal S1x128x512 .bf16) (Rect.unit ![0, 0, 0] ![1, 128, 64] inb_S1x128x512_S1x128x64_0_0_0)) (View.ld (iblk m c 2 t : Vec Ideal S1x128x512 .bf16) (Rect.unit ![0, 0, 0] ![1, 128, 64] inb_S1x128x512_S1x128x64_0_0_0)) (View.ld (iblk m c 3 t : Vec Ideal S1x128x512 .bf16) (Rect.unit ![0, 0, 0] ![1, 128, 64] inb_S1x128x512_S1x128x64_0_0_0)) (View.ld (iblk m c 4 t : Vec Ideal S1x256x512 .bf16) (Rect.unit ![0, 0, 0] ![1, 256, 64] inb_S1x256x512_S1x256x64_0_0_0))) (stack (View.ld (iblk m c 1 t : Vec Ideal S1x128x512 .bf16) (Rect.unit ![0, 0, 256] ![1, 128, 64] inb_S1x128x512_S1x128x64_0_0_256)) (View.ld (iblk m c 2 t : Vec Ideal S1x128x512 .bf16) (Rect.unit ![0, 0, 256] ![1, 128, 64] inb_S1x128x512_S1x128x64_0_0_256)) (View.ld (iblk m c 3 t : Vec Ideal S1x128x512 .bf16) (Rect.unit ![0, 0, 256] ![1, 128, 64] inb_S1x128x512_S1x128x64_0_0_256)) (View.ld (iblk m c 4 t : Vec Ideal S1x256x512 .bf16) (Rect.unit ![0, 0, 256] ![1, 256, 64] inb_S1x256x512_S1x256x64_0_0_256))) (View.ld (iblk m c 5 t : Vec Ideal S1x16 .f32) (Rect.unit ![0, 0] ![1, 1] inb_S1x16_S1x1_0_0) (Shape.Idx.first (show 0 < Shape.numel ⟨2, ![1, 1]⟩ by decide))) (View.ld (iblk m c 5 t : Vec Ideal S1x16 .f32) (Rect.unit ![0, 1] ![1, 1] inb_S1x16_S1x1_0_1) (Shape.Idx.first (show 0 < Shape.numel ⟨2, ![1, 1]⟩ by decide))) (View.ld (iblk m c 5 t : Vec Ideal S1x16 .f32) (Rect.unit ![0, 2] ![1, 1] inb_S1x16_S1x1_0_2) (Shape.Idx.first (show 0 < Shape.numel ⟨2, ![1, 1]⟩ by decide))) (View.ld (iblk m c 5 t : Vec Ideal S1x16 .f32) (Rect.unit ![0, 3] ![1, 1] inb_S1x16_S1x1_0_3) (Shape.Idx.first (show 0 < Shape.numel ⟨2, ![1, 1]⟩ by decide))) y) ?_ ?_
    · rfl
    · exact at_out m c hq hk hkc hsk t 0 _ _ _ _ (fun r x => slice_q (X0_0 m c t) 0 (by decide) _ r x) (fun r x => slice_q (X0_0 m c t) 64 (by decide) _ r x) (fun r x => slice_q (X0_0 m c t) 128 (by decide) _ r x) (fun r x => slice_q (X0_0 m c t) 192 (by decide) _ r x)
        _ _ _ _ _ _ _ _ (holds_k m c t 0 _ rfl _ _) (holds_v m c t 0 _ rfl _ _) _ _ _ _ (sink m c t 0 (by decide) _ _) (sink m c t 1 (by decide) _ _) (sink m c t 2 (by decide) _ _) (sink m c t 3 (by decide) _ _) y _ h1 (h2.trans (by simp only []; omega))

end Cert.KernelIdeal.Att
end
-- ==== Proof.AttPre.lean ====
module

public import proofs.«01_k».proof.Defs
public import proofs.«01_k».proof.Proof.AttValue

/-!
What the precondition says: every entry of the four arrays is a real number.
-/

@[expose] public section

noncomputable section
open Idealize.ShloMosaic Idealize.ShloMosaic.TcCoe Idealize.SL.Sem
namespace Cert.KernelIdeal.Att
open Cert.KernelIdeal Cert.KernelIdeal.Gen

theorem real_of_lt (a : EReal) (h : (max a (-a)) < ⊤) : ∃ r : ℝ, a = r := by
  induction a using EReal.rec with
  | bot => simp at h
  | coe r => exact ⟨r, rfl⟩
  | top => simp at h

theorem real_of {s : Shape} (x : FVec Ideal s .f32) (hb : S_.BroadcastsInDim s (![] : Fin 0 → Fin s.rank))
    (h : cmpf .olt (Host.absf x) (broadcastInDim s ![] hb (constant S_ .f32 0x7F800000#32 : FVec Ideal S_ .f32)) = fun _ => 1#1) : IsReal x := by
  intro i
  have e : BitVec.ofBool (decide (max (x i) (-(x i)) < Ideal.ofBits FTy.f32 2139095040#32)) = 1#1 := congrFun h i
  rw [ReferenceIdeal.Att.ofBits_pos_inf] at e
  refine real_of_lt (x i) ?_
  by_contra hn
  rw [decide_eq_false hn] at e
  exact absurd e (by decide)

theorem reals (m : (ℓ : Loc nD τ sig) → Buf (Elt Ideal) ℓ) [Pre_logits_finite.Facts] (h : Pre_KernelIdeal_logits_finite m) (c : Dev nD) :
    IsReal (m ((c : Thread nD τ).loc main_arg0) : FVec Ideal S2x8192x16x64 .f32) ∧ IsReal (m ((c : Thread nD τ).loc main_arg1) : FVec Ideal S2x8192x4x64 .f32)
      ∧ IsReal (m ((c : Thread nD τ).loc main_arg3) : FVec Ideal S2x256x4x64 .f32) ∧ IsReal (m ((c : Thread nD τ).loc main_arg5) : FVec Ideal S16 .f32) :=
  ⟨real_of _ Pre_logits_finite.Facts.bcast_S_S2x8192x16x64 (h c).1, real_of _ Pre_logits_finite.Facts.bcast_S_S2x8192x4x64 (h c).2.1,
    real_of _ Pre_logits_finite.Facts.bcast_S_S2x256x4x64 (h c).2.2.1, real_of _ Pre_logits_finite.Facts.bcast_S_S16 (h c).2.2.2⟩

end Cert.KernelIdeal.Att
end
-- ==== Proof.AttClaim.lean ====
module

public import proofs.«01_k».proof.Defs
public import proofs.«01_k».proof.Proof.AttPre
public import proofs.«01_k».proof.Proof.Gen.ReferenceIdeal.Run

/-!
The attention kernel and its reference end with one result.
-/

@[expose] public section

noncomputable section

namespace Cert.Proof.Att

open Idealize.ShloMosaic Idealize.SL.Sem Cert.Kernel

theorem algebraic [Pre_logits_finite.Facts] : Cert.algebraic_KernelIdeal_ReferenceIdeal_pre_logits_finite (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    obtain ⟨a0, a1, a2, a3, a4, a5⟩ := hagree c
    obtain ⟨hq, hk, hkc, hsk⟩ := Cert.KernelIdeal.Att.reals m hpre c
    refine Eq.trans ?_ (Cert.KernelIdeal.Att.final m c hq hk hkc hsk).symm
    unfold Cert.KernelIdeal.Att.want
    rw [Cert.ReferenceIdeal.Att.res_eq]
    rw [← a0, ← a1, ← a2, ← a3, ← a4, ← a5]

end Cert.Proof.Att

end
-- ==== Proof.RefFfn.lean ====
module

public import proofs.«01_k».proof.Proof.Gen.FfnReferenceIdeal.Run
public import Idealize.ShloMosaic.Lib.Pipeline.ValueKit

/-!
The reference of the feed-forward part, read entry by entry.
-/

@[expose] public section

set_option maxRecDepth 16384

noncomputable section

open Idealize.ShloMosaic Idealize.ShloMosaic.TcCoe Idealize.SL.Sem
open scoped BigOperators

namespace Cert.FfnReferenceIdeal.Val

open Cert.FfnReferenceIdeal Cert.FfnReferenceIdeal.Gen Idealize.ShloMosaic.StableHlo

abbrev X3 := FVec Ideal S2x8192x1024 .f32
abbrev WU := FVec Ideal S1x1024x5632 .f32
abbrev CW := FVec Ideal S1x3x5632 .f32
abbrev CB := FVec Ideal S1x5632 .f32
abbrev WD := FVec Ideal S1x2816x1024 .f32
abbrev GT := FVec Ideal S2x1x1024 .f32
abbrev FG := FVec Ideal S1024 .f32

/-! ## Entries -/

/-- Row `j` of the rows with one row of nothing before and after. -/
def hz (h : X3) (b : Fin 2) (j : ℕ) (k : Fin 1024) : EReal :=
  if hj : 1 ≤ j ∧ j < 8193 then h (ix3 b ⟨j - 1, by omega⟩ k) else 0

def plin (h : X3) (w : WU) (b : Fin 2) (j : ℕ) (x : Fin 5632) : EReal := ∑ k : Fin 1024, hz h b j k * w (ix3 0 k x)

def convE (h : X3) (w : WU) (cw : CW) (cb : CB) (b : Fin 2) (l : ℕ) (x : Fin 5632) : EReal :=
  ((cw (ix3 0 0 x) * plin h w b l x + cw (ix3 0 1 x) * plin h w b (l + 1) x) + cw (ix3 0 2 x) * plin h w b (l + 2) x) + cb (ix2 0 x)

def silu (a : EReal) : EReal := a * Ideal.logistic a

def actE (h : X3) (w : WU) (cw : CW) (cb : CB) (b : Fin 2) (l : ℕ) (j : Fin 2816) : EReal :=
  silu (convE h w cw cb b l ⟨j.val, by omega⟩) * convE h w cw cb b l ⟨2816 + j.val, by omega⟩

def x2E (x1 h : X3) (g : GT) (w : WU) (cw : CW) (cb : CB) (wd : WD) (b : Fin 2) (l : Fin 8192) (x : Fin 1024) : EReal :=
  x1 (ix3 b l x) + g (ix3 b 0 x) * ∑ j : Fin 2816, actE h w cw cb b l.val j * wd (ix3 0 j x)

/-- A row over the root of the mean of its squares. -/
def nrm (v : Fin 1024 → EReal) (x : Fin 1024) : EReal :=
  v x * Ideal.rsqrt (Ideal.div (∑ y : Fin 1024, v y * v y) (Ideal.ofBits .f32 0x44800000#32) + Ideal.ofBits .f32 0x358637BD#32)

def outE (x1 h : X3) (g : GT) (w : WU) (cw : CW) (cb : CB) (wd : WD) (fg : FG) (b : Fin 2) (l : Fin 8192) (x : Fin 1024) : EReal :=
  nrm (x2E x1 h g w cw cb wd b l) x * fg (ix1 x)

def out (x1 h : X3) (g : GT) (w : WU) (cw : CW) (cb : CB) (wd : WD) (fg : FG) : X3 :=
  fun i => outE x1 h g w cw cb wd fg (i 0) (i 1) (i 2)

/-! ## The reference in stages -/

def up (h : X3) (w : WU) : FVec Ideal S2x8192x5632 .f32 :=
  Host.dotGeneral dot_S2x8192x1024_S1024x5632_S2x8192x5632_2_0_01_1_n_n none h (shapeCast _ w shapeCasts_S1x1024x5632_S1024x5632)

def padU (u : FVec Ideal S2x8192x5632 .f32) : FVec Ideal S2x8194x5632 .f32 :=
  pad S2x8194x5632 ![0, 1, 0] ![0, 1, 0] ![0, 0, 0] u (sitofp .f32 (constantI S_ 32 0#32)) pads_S2x8192x5632_S2x8194x5632_000_110_000 h_S_

def rowB (v : FVec Ideal S1x5632 .f32) : FVec Ideal S2x8192x5632 .f32 :=
  broadcastInDim S2x8192x5632 ![0, 1, 2] bcast_S1x1x5632_S2x8192x5632_0_1_2 (broadcastInDim S1x1x5632 ![2] bcast_S5632_S1x1x5632_2 (shapeCast _ v shapeCasts_S1x5632_S5632))

def conv (p : FVec Ideal S2x8194x5632 .f32) (cw : CW) (cb : CB) : FVec Ideal S2x8192x5632 .f32 :=
  addf (addf (addf
    (mulf (extractStridedSlice S2x8192x5632 ![0, 0, 0] p slices_S2x8194x5632_S2x8192x5632_0_0_0) (rowB (extractStridedSlice S1x5632 ![0, 0] (shapeCast _ cw shapeCasts_S1x3x5632_S3x5632) slices_S3x5632_S1x5632_0_0)))
    (mulf (extractStridedSlice S2x8192x5632 ![0, 1, 0] p slices_S2x8194x5632_S2x8192x5632_0_1_0) (rowB (extractStridedSlice S1x5632 ![1, 0] (shapeCast _ cw shapeCasts_S1x3x5632_S3x5632) slices_S3x5632_S1x5632_1_0))))
    (mulf (extractStridedSlice S2x8192x5632 ![0, 2, 0] p slices_S2x8194x5632_S2x8192x5632_0_2_0) (rowB (extractStridedSlice S1x5632 ![2, 0] (shapeCast _ cw shapeCasts_S1x3x5632_S3x5632) slices_S3x5632_S1x5632_2_0))))
    (rowB cb)

def one : FVec Ideal S2x8192x2816 .f32 := broadcastInDim S2x8192x2816 ![] bcast_S_S2x8192x2816 (constant S_ .f32 0x3F800000#32)

def sgm (v : FVec Ideal S2x8192x2816 .f32) : FVec Ideal S2x8192x2816 .f32 :=
  Host.divf one (addf one (Host.exp (Host.negf v)))

def lo (v : FVec Ideal S2x8192x5632 .f32) : FVec Ideal S2x8192x2816 .f32 := extractStridedSlice S2x8192x2816 ![0, 0, 0] v slices_S2x8192x5632_S2x8192x2816_0_0_0

def hi (v : FVec Ideal S2x8192x5632 .f32) : FVec Ideal S2x8192x2816 .f32 := extractStridedSlice S2x8192x2816 ![0, 0, 2816] v slices_S2x8192x5632_S2x8192x2816_0_0_2816

def act (v : FVec Ideal S2x8192x5632 .f32) : FVec Ideal S2x8192x2816 .f32 := mulf (mulf (lo v) (sgm (lo v))) (hi v)

def x2 (x1 : X3) (g : GT) (a : FVec Ideal S2x8192x2816 .f32) (wd : WD) : X3 :=
  addf x1 (mulf (broadcastInDim S2x8192x1024 ![0, 1, 2] bcast_S2x1x1024_S2x8192x1024_0_1_2 g)
    (Host.dotGeneral dot_S2x8192x2816_S2816x1024_S2x8192x1024_2_0_01_1_n_n none a (shapeCast _ wd shapeCasts_S1x2816x1024_S2816x1024)))

theorem hz_in (h : X3) (b : Fin 2) (j : ℕ) (k : Fin 1024) (hj : 1 ≤ j ∧ j < 8193) : hz h b j k = h (ix3 b ⟨j - 1, by omega⟩ k) := dif_pos hj

theorem hz_out (h : X3) (b : Fin 2) (j : ℕ) (k : Fin 1024) (hj : ¬ (1 ≤ j ∧ j < 8193)) : hz h b j k = 0 := dif_neg hj

theorem up_apply (h w) (b : Fin 2) (l : Fin 8192) (x : Fin 5632) :
    up h w (ix3 b l x) = ∑ k : Fin 1024, h (ix3 b l k) * w (ix3 0 k x) := by
  pointwise [up]

theorem padU_apply (h w) (b : Fin 2) (j : Fin 8194) (x : Fin 5632) : padU (up h w) (ix3 b j x) = plin h w b j.val x := by
  pointwise [padU]
  unfold plin
  split
  · rename_i hj
    rw [up_apply]
    refine Finset.sum_congr rfl fun k _ => ?_
    rw [hz_in h b j.val k (by omega)]
  · rename_i hj
    refine Eq.trans ?_ (Finset.sum_eq_zero fun k _ => ?_).symm
    · show (((0#32 : BitVec 32).toInt : ℝ) : EReal) = 0
      norm_num
    · rw [hz_out h b j.val k (by omega), zero_mul]

theorem conv_apply (h w cw cb) (b : Fin 2) (l : Fin 8192) (x : Fin 5632) :
    conv (padU (up h w)) cw cb (ix3 b l x) = convE h w cw cb b l.val x := by
  pointwise [conv, rowB]
  simp only [padU_apply]
  unfold convE
  rw [mul_comm (plin h w b l.val x), mul_comm (plin h w b (1 + l.val) x), mul_comm (plin h w b (2 + l.val) x), add_comm 1 l.val, add_comm 2 l.val]

theorem one_apply (b : Fin 2) (l : Fin 8192) (x : Fin 2816) : one (ix3 b l x) = 1 := Ideal.ofBits_one_f32

theorem sgm_apply (v) (b : Fin 2) (l : Fin 8192) (x : Fin 2816) : sgm v (ix3 b l x) = Ideal.logistic (v (ix3 b l x)) := by
  pointwise [sgm]
  rw [one_apply]
  rfl

theorem act_apply (h w cw cb) (b : Fin 2) (l : Fin 8192) (j : Fin 2816) :
    act (conv (padU (up h w)) cw cb) (ix3 b l j) = actE h w cw cb b l.val j := by
  pointwise [act]
  rw [sgm_apply]
  pointwise [lo, hi]
  simp only [conv_apply]
  rfl

theorem x2_apply (x1 h g w cw cb wd) (b : Fin 2) (l : Fin 8192) (x : Fin 1024) :
    x2 x1 g (act (conv (padU (up h w)) cw cb)) wd (ix3 b l x) = x2E x1 h g w cw cb wd b l x := by
  pointwise [x2]
  simp only [act_apply]
  rfl

def norm (v : X3) (fg : FG) : X3 :=
  mulf (mulf v (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (axes := [2]) (mulf v v) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 fg))

theorem norm_apply (v : X3) (fg : FG) (b : Fin 2) (l : Fin 8192) (x : Fin 1024) :
    norm v fg (ix3 b l x) = nrm (fun y => v (ix3 b l y)) x * fg (ix1 x) := by
  pointwise [norm]
  rfl

theorem res_eq (m : (ℓ : Loc nD τ sig) → Buf (Elt Ideal) ℓ) (c : Dev nD) :
    Value.res_main_v49 m c = norm (x2 (m ((c.tc : Thread nD τ).loc main_arg0)) (m ((c.tc : Thread nD τ).loc main_arg2))
      (act (conv (padU (up (m ((c.tc : Thread nD τ).loc main_arg1)) (m ((c.tc : Thread nD τ).loc main_arg3)))) (m ((c.tc : Thread nD τ).loc main_arg4)) (m ((c.tc : Thread nD τ).loc main_arg5))))
      (m ((c.tc : Thread nD τ).loc main_arg6))) (m ((c.tc : Thread nD τ).loc main_arg7)) := rfl

theorem final (m : (ℓ : Loc nD τ sig) → Buf (Elt Ideal) ℓ) (c : Dev nD) :
    Value.res_main_v49 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  rw [res_eq]
  funext i
  obtain ⟨b, l, x, rfl⟩ : ∃ (b : Fin 2) (l : Fin 8192) (x : Fin 1024), i = ix3 b l x := ⟨i 0, i 1, i 2, eq_ix3 i⟩
  rw [norm_apply]
  simp only [x2_apply]
  rfl

end Cert.FfnReferenceIdeal.Val

end
-- ==== Proof.FfnBlk.lean ====
module

public import proofs.«01_k».proof.Proof.Gen.FfnIdeal.Value
public import proofs.«01_k».proof.Proof.RefFfn

/-!
The blocks that the feed-forward kernel reads, in terms of the arguments.
-/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen
open Cert.FfnReferenceIdeal.Val (hz plin convE silu actE x2E nrm outE out hz_in hz_out)

variable (m : (ℓ : Loc nD τ sig) → Buf (Elt Ideal) ℓ)

theorem idx : ∀ t : Fin cfg0.N, win0_0.index t = ![t.val / 16, t.val % 16, 0]
    ∧ win0_1.index t = ![t.val / 16, t.val % 16 * 32 - 1, 0]
    ∧ win0_2.index t = ![t.val / 16, min (t.val % 16 * 32 + 32) 511, 0]
    ∧ win0_3.index t = ![t.val / 16, t.val % 16, 0]
    ∧ win0_4.index t = ![0, 0]
    ∧ win0_5.index t = ![0, 0]
    ∧ win0_6.index t = ![0, 0]
    ∧ win0_7.index t = ![0, 0]
    ∧ win0_8.index t = ![t.val / 16, 0, 0]
    ∧ win0_9.index t = ![0, 0]
    ∧ win0_10.index t = ![t.val / 16, t.val % 16, 0] :=
  (by decide +kernel : ∀ t : Fin grid0.N, _)

def bt (t : Fin cfg0.N) : Fin 2 := ⟨t.val / 16, by have := t.isLt; change _ < 32 at this; omega⟩
def rw_ (t : Fin cfg0.N) (r : Fin 512) : Fin 8192 := ⟨t.val % 16 * 512 + r.val, by omega⟩

abbrev aX (c : Dev nD) := m ((c : Thread nD τ).loc main_arg0)
abbrev aH (c : Dev nD) := m ((c : Thread nD τ).loc main_arg1)
abbrev aG (c : Dev nD) := m ((c : Thread nD τ).loc main_arg2)
abbrev aW (c : Dev nD) := m ((c : Thread nD τ).loc main_arg3)
abbrev aC (c : Dev nD) := m ((c : Thread nD τ).loc main_arg4)
abbrev aB (c : Dev nD) := m ((c : Thread nD τ).loc main_arg5)
abbrev aD (c : Dev nD) := m ((c : Thread nD τ).loc main_arg6)
abbrev aF (c : Dev nD) := m ((c : Thread nD τ).loc main_arg7)

theorem blk_h (c : Dev nD) (t : Fin cfg0.N) (r : Fin 512) (k : Fin 1024) :
    iblk m c 0 t (ix3 0 r k) = aH m c (ix3 (bt t) (rw_ t r) k) := by
  blk_simp [iblk]
  entry_read
  pointwise
  blk_ext [idx t, bt, rw_]

theorem blk_top (c : Dev nD) (t : Fin cfg0.N) (r : Fin 16) (k : Fin 1024) :
    iblk m c 1 t (ix3 0 r k) = aH m c (ix3 (bt t) ⟨(t.val % 16 * 32 - 1) * 16 + r.val, by omega⟩ k) := by
  blk_simp [iblk]
  entry_read
  pointwise
  blk_ext [idx t, bt]

theorem blk_bot (c : Dev nD) (t : Fin cfg0.N) (r : Fin 16) (k : Fin 1024) :
    iblk m c 2 t (ix3 0 r k) = aH m c (ix3 (bt t) ⟨(min (t.val % 16 * 32 + 32) 511) * 16 + r.val, by omega⟩ k) := by
  blk_simp [iblk]
  entry_read
  pointwise
  blk_ext [idx t, bt]

theorem blk_x (c : Dev nD) (t : Fin cfg0.N) (r : Fin 512) (k : Fin 1024) :
    iblk m c 3 t (ix3 0 r k) = aX m c (ix3 (bt t) (rw_ t r) k) := by
  blk_simp [iblk]
  entry_read
  blk_ext [idx t, bt, rw_]

theorem blk_w (c : Dev nD) (t : Fin cfg0.N) (k : Fin 1024) (x : Fin 5632) :
    iblk m c 4 t (ix2 k x) = aW m c (ix3 0 k x) := by
  blk_simp [iblk]
  entry_read
  pointwise
  blk_ext [idx t]

theorem blk_c (c : Dev nD) (t : Fin cfg0.N) (k : Fin 3) (x : Fin 5632) :
    iblk m c 5 t (ix2 k x) = aC m c (ix3 0 k x) := by
  blk_simp [iblk]
  entry_read
  pointwise
  blk_ext [idx t]

theorem blk_b (c : Dev nD) (t : Fin cfg0.N) (x : Fin 5632) :
    iblk m c 6 t (ix2 0 x) = aB m c (ix2 0 x) := by
  blk_simp [iblk]
  entry_read
  pointwise
  blk_ext [idx t]

theorem blk_d (c : Dev nD) (t : Fin cfg0.N) (k : Fin 2816) (x : Fin 1024) :
    iblk m c 7 t (ix2 k x) = aD m c (ix3 0 k x) := by
  blk_simp [iblk]
  entry_read
  pointwise
  blk_ext [idx t]

theorem blk_g (c : Dev nD) (t : Fin cfg0.N) (x : Fin 1024) :
    iblk m c 8 t (ix3 0 0 x) = aG m c (ix3 (bt t) 0 x) := by
  blk_simp [iblk]
  entry_read
  blk_ext [idx t, bt]

theorem blk_f (c : Dev nD) (t : Fin cfg0.N) (x : Fin 1024) :
    iblk m c 9 t (ix2 0 x) = aF m c (ix1 x) := by
  blk_simp [iblk]
  entry_read
  pointwise
  blk_ext [idx t]

/-! ## The rows with their neighbours -/

def HX (c : Dev nD) (t : Fin cfg0.N) : FVec Ideal S544x1024 .bf16 :=
  fun y => hz (aH m c) (bt t) (t.val % 16 * 512 + (y 0).val - 15) (y 1)

theorem coord (t : Fin cfg0.N) : ((grid0.coords t) 1).val = t.val % 16 :=
  (by decide +kernel : ∀ t : Fin grid0.N, ((grid0.coords t) 1).val = t.val % 16) t

theorem cmp_top (t : Fin cfg0.N) : Scalar.cmpi .eq (BitVec.ofNat 32 (t.val % 16)) 0#32 = if t.val % 16 = 0 then 1#1 else 0#1 :=
  (by decide +kernel : ∀ n : Fin 16, Scalar.cmpi .eq (BitVec.ofNat 32 n.val) 0#32 = if n.val = 0 then 1#1 else 0#1) ⟨t.val % 16, by omega⟩

theorem cmp_bot (t : Fin cfg0.N) : Scalar.cmpi .eq (BitVec.ofNat 32 (t.val % 16)) 15#32 = if t.val % 16 = 15 then 1#1 else 0#1 :=
  (by decide +kernel : ∀ n : Fin 16, Scalar.cmpi .eq (BitVec.ofNat 32 n.val) 15#32 = if n.val = 15 then 1#1 else 0#1) ⟨t.val % 16, by omega⟩

theorem select_one (a b : EReal) : Scalar.select 1#1 a b = a := rfl

theorem select_zero (a b : EReal) : Scalar.select 0#1 a b = b := rfl

theorem top_eq (c : Dev nD) (t : Fin cfg0.N) (r : Fin 16) (k : Fin 1024) :
    k0_pay2 (grid0.coords t) (iblk m c 1 t) (ix2 r k) = hz (aH m c) (bt t) (t.val % 16 * 512 + r.val - 15) k := by
  pointwise [k0_pay2]
  rw [coord, cmp_top, blk_top]
  by_cases h : t.val % 16 = 0
  · rw [if_pos h, select_one, hz_out _ _ _ _ (by omega)]
  · rw [if_neg h, select_zero, hz_in _ _ _ _ (by omega)]
    congr 2
    exact Fin.ext (by simp only []; omega)

theorem mid_eq (c : Dev nD) (t : Fin cfg0.N) (r : Fin 512) (k : Fin 1024) :
    k0_pay3 (iblk m c 0 t) (ix2 r k) = hz (aH m c) (bt t) (t.val % 16 * 512 + (16 + r.val) - 15) k := by
  pointwise [k0_pay3]
  rw [blk_h, hz_in _ _ _ _ (by omega)]
  congr 2
  exact Fin.ext (by simp only [rw_]; omega)

theorem bot_eq (c : Dev nD) (t : Fin cfg0.N) (r : Fin 16) (k : Fin 1024) :
    k0_pay4 (grid0.coords t) (iblk m c 2 t) (ix2 r k) = hz (aH m c) (bt t) (t.val % 16 * 512 + (528 + r.val) - 15) k := by
  pointwise [k0_pay4]
  rw [coord, cmp_bot, blk_bot]
  by_cases h : t.val % 16 = 15
  · rw [if_pos h, select_one, hz_out _ _ _ _ (by omega)]
  · rw [if_neg h, select_zero, hz_in _ _ _ _ (by omega)]
    congr 2
    exact Fin.ext (by simp only []; omega)

end Cert.FfnIdeal.Val

end
-- ==== Proof.FfnCore.lean ====
module

public import proofs.«01_k».proof.Proof.FfnBlk
public import Idealize.ShloMosaic.Lib.Pipeline.ValueKit
public import Idealize.ShloMosaic.Lib.Pipeline.ReadBack

/-!
The feed-forward kernel at one grid point: the rows with their neighbours, one chunk of columns, the product and the norm.
-/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen
open Cert.FfnReferenceIdeal.Val (hz plin convE silu actE x2E nrm outE out hz_in hz_out)

variable (m : (ℓ : Loc nD τ sig) → Buf (Elt Ideal) ℓ)

theorem hext_canon (c : Dev nD) (t : Fin cfg0.N) (y : S544x1024.Idx) :
    View.canon (Val := Elt Ideal) (s := S544x1024) (e := .bf16) [⟨Rect.unit ![528, 0] ![16, 1024] inb_S544x1024_S16x1024_528_0, k0_pay4 (grid0.coords t) (iblk m c 2 t)⟩,
      ⟨Rect.unit ![16, 0] ![512, 1024] inb_S544x1024_S512x1024_16_0, k0_pay3 (iblk m c 0 t)⟩,
      ⟨Rect.unit ![0, 0] ![16, 1024] inb_S544x1024_S16x1024_0_0, k0_pay2 (grid0.coords t) (iblk m c 1 t)⟩] y
      = HX m c t y := by
  have hy0 : (y 0).val < 544 := (y 0).isLt
  have hy1 : (y 1).val < 1024 := (y 1).isLt
  have cov : ∃ p ∈ ([⟨Rect.unit ![528, 0] ![16, 1024] inb_S544x1024_S16x1024_528_0, k0_pay4 (grid0.coords t) (iblk m c 2 t)⟩,
      ⟨Rect.unit ![16, 0] ![512, 1024] inb_S544x1024_S512x1024_16_0, k0_pay3 (iblk m c 0 t)⟩,
      ⟨Rect.unit ![0, 0] ![16, 1024] inb_S544x1024_S16x1024_0_0, k0_pay2 (grid0.coords t) (iblk m c 1 t)⟩] : List (View.Piece (Elt Ideal) S544x1024 .bf16)), y ∈ p.1.set := by
    by_cases hb : 528 ≤ (y 0).val
    · refine ⟨_, List.mem_cons_self, ?_⟩; refine (Rect.mem_set_unit (inb := inb_S544x1024_S16x1024_528_0)).mpr fun a => ?_
      match a with
      | ⟨0, _⟩ => exact ⟨hb, (show (y 0).val < 528 + 16 by omega)⟩
      | ⟨1, _⟩ => exact ⟨Nat.zero_le _, (show (y 1).val < 0 + 1024 by omega)⟩
    · by_cases hc : 16 ≤ (y 0).val
      · refine ⟨_, List.mem_cons_of_mem _ List.mem_cons_self, ?_⟩; refine (Rect.mem_set_unit (inb := inb_S544x1024_S512x1024_16_0)).mpr fun a => ?_
        match a with
        | ⟨0, _⟩ => exact ⟨hc, (show (y 0).val < 16 + 512 by omega)⟩
        | ⟨1, _⟩ => exact ⟨Nat.zero_le _, (show (y 1).val < 0 + 1024 by omega)⟩
      · refine ⟨_, List.mem_cons_of_mem _ (List.mem_cons_of_mem _ List.mem_cons_self), ?_⟩; refine (Rect.mem_set_unit (inb := inb_S544x1024_S16x1024_0_0)).mpr fun a => ?_
        match a with
        | ⟨0, _⟩ => exact ⟨Nat.zero_le _, (show (y 0).val < 0 + 16 by omega)⟩
        | ⟨1, _⟩ => exact ⟨Nat.zero_le _, (show (y 1).val < 0 + 1024 by omega)⟩
  canon_tiles y h using cov
  case piece0 y' =>
    rw [eq_ix2 y]
    exact (bot_eq m c t (y 0) (y 1)).trans (by unfold HX; rw [h0, show y' 1 = y 1 from Fin.ext h1])
  case piece1 y' =>
    rw [eq_ix2 y]
    exact (mid_eq m c t (y 0) (y 1)).trans (by unfold HX; rw [h0, show y' 1 = y 1 from Fin.ext h1])
  case piece2 y' =>
    rw [eq_ix2 y]
    exact (top_eq m c t (y 0) (y 1)).trans (by unfold HX; rw [h0, show y' 1 = y 1 from Fin.ext h1])

theorem hext (c : Dev nD) (t : Fin cfg0.N) :
    (View.whole cc0_scratch0).readCov (Val := Elt Ideal) [⟨Rect.unit ![528, 0] ![16, 1024] inb_S544x1024_S16x1024_528_0, k0_pay4 (grid0.coords t) (iblk m c 2 t)⟩,
      ⟨Rect.unit ![16, 0] ![512, 1024] inb_S544x1024_S512x1024_16_0, k0_pay3 (iblk m c 0 t)⟩,
      ⟨Rect.unit ![0, 0] ![16, 1024] inb_S544x1024_S16x1024_0_0, k0_pay2 (grid0.coords t) (iblk m c 1 t)⟩]
      (Rect.unit ![0, 0] ![544, 1024] inb_S544x1024_S544x1024_0_0).toLoadRect = HX m c t := by
  rw [View.readCov_eq_canon']
  funext j
  refine (congrArg _ ?_).trans (hext_canon m c t j)
  funext a
  refine Fin.ext ?_
  rw [Rect.idx_unit_val]
  match a with
  | ⟨0, _⟩ => exact (show 0 + (j 0).val = (j 0).val by omega)
  | ⟨1, _⟩ => exact (show 0 + (j 1).val = (j 1).val by omega)

/-- A chunk of 256 columns of the convolved rows. -/
def cv (X : FVec Ideal S544x1024 .bf16) (W : FVec Ideal S1024x256 .bf16) (C : FVec Ideal S3x256 .f32) (B : FVec Ideal S1x256 .f32) : FVec Ideal S512x256 .f32 :=
  let u := matmul dot_S544x1024_S1024x256_S544x256_1_0_0_1_n_n none X (shapeCast S1024x256 W shapeCasts_S1024x256_S1024x256) (constant S544x256 .f32 0x00000000#32)
  let C' := shapeCast S3x256 C shapeCasts_S3x256_S3x256
  addf (addf (addf
    (mulf (broadcastTo S512x256 (extractStridedSlice S1x256 ![0, 0] C' slices_S3x256_o0_0_S1x256) broadcasts_S1x256_S512x256)
      (extractStridedSlice S512x256 ![16, 0] (dynamicRotate 0 1#32 none u rotates_S544x256_d0) slices_S544x256_o16_0_S512x256))
    (mulf (broadcastTo S512x256 (extractStridedSlice S1x256 ![1, 0] C' slices_S3x256_o1_0_S1x256) broadcasts_S1x256_S512x256)
      (extractStridedSlice S512x256 ![16, 0] u slices_S544x256_o16_0_S512x256)))
    (mulf (broadcastTo S512x256 (extractStridedSlice S1x256 ![2, 0] C' slices_S3x256_o2_0_S1x256) broadcasts_S1x256_S512x256)
      (extractStridedSlice S512x256 ![16, 0] (dynamicRotate 0 543#32 none u rotates_S544x256_d0) slices_S544x256_o16_0_S512x256)))
    (broadcastTo S512x256 (shapeCast S1x256 B shapeCasts_S1x256_S1x256) broadcasts_S1x256_S512x256)

def ac (A B : FVec Ideal S512x256 .f32) : FVec Ideal S512x256 .bf16 :=
  shapeCast S512x256 (truncf .bf16 (mulf (mulf A (logistic A)) B) bitsLt_bf16_f32) shapeCasts_S512x256_S512x256

def rowS (X : FVec Ideal S544x1024 .bf16) (W : FVec Ideal S1024x256 .bf16) (q : Fin 544) (x : Fin 256) : EReal := ∑ k : Fin 1024, X (ix2 q k) * W (ix2 k x)

theorem cv_apply (X W C B) (r : Fin 512) (x : Fin 256) :
    cv X W C B (ix2 r x) = ((C (ix2 0 x) * rowS X W ⟨r.val + 15, by omega⟩ x + C (ix2 1 x) * rowS X W ⟨r.val + 16, by omega⟩ x)
      + C (ix2 2 x) * rowS X W ⟨r.val + 17, by omega⟩ x) + B (ix2 0 x) := by
  unfold cv
  pointwise
  have e0 : ∀ h, (⟨(16 + r.val + 544 - 1) % 544, h⟩ : Fin 544) = ⟨r.val + 15, by omega⟩ := fun h => Fin.ext (by simp only []; omega)
  have e1 : ∀ h, (⟨16 + r.val, h⟩ : Fin 544) = ⟨r.val + 16, by omega⟩ := fun h => Fin.ext (by simp only []; omega)
  have e2 : ∀ h, (⟨(16 + r.val + 544 - 543) % 544, h⟩ : Fin 544) = ⟨r.val + 17, by omega⟩ := fun h => Fin.ext (by simp only []; omega)
  simp only [e0, e1, e2]
  rfl

theorem ac_apply (A B) (r : Fin 512) (x : Fin 256) : ac A B (ix2 r x) = silu (A (ix2 r x)) * B (ix2 r x) := by
  pointwise [ac]
  rfl

/-! ## A chunk against the arguments -/

def ldW (c : Dev nD) (t : Fin cfg0.N) (o : ℕ) : FVec Ideal S1024x256 .bf16 := fun y => aW m c (ix3 0 (y 0) ⟨(o + (y 1).val) % 5632, Nat.mod_lt _ (by decide)⟩)
def ldC (c : Dev nD) (t : Fin cfg0.N) (o : ℕ) : FVec Ideal S3x256 .f32 := fun y => aC m c (ix3 0 (y 0) ⟨(o + (y 1).val) % 5632, Nat.mod_lt _ (by decide)⟩)
def ldB (c : Dev nD) (t : Fin cfg0.N) (o : ℕ) : FVec Ideal S1x256 .f32 := fun y => aB m c (ix2 0 ⟨(o + (y 1).val) % 5632, Nat.mod_lt _ (by decide)⟩)

theorem ldW_eq (c : Dev nD) (t : Fin cfg0.N) (o : ℕ) (ho : o + 256 ≤ 5632) (inb : ∀ a, (![0, o] : Fin 2 → ℕ) a + (![1024, 256] : Fin 2 → ℕ) a ≤ S1024x5632.size a) :
    View.ld (iblk m c 4 t : Vec Ideal S1024x5632 .bf16) (Rect.unit ![0, o] ![1024, 256] inb) = ldW m c t o := by
  funext y
  rw [View.ld_apply]
  refine Eq.trans ?_ (blk_w m c t (y 0) ⟨(o + (y 1).val) % 5632, Nat.mod_lt _ (by decide)⟩)
  refine congrArg _ (funext fun a => Fin.ext ?_)
  rw [Rect.idx_unit_val]
  have h1 : (y 1).val < 256 := (y 1).isLt
  match a with
  | ⟨0, _⟩ => exact (show 0 + (y 0).val = (y 0).val by omega)
  | ⟨1, _⟩ => exact (show o + (y 1).val = (o + (y 1).val) % 5632 by omega)

theorem ldC_eq (c : Dev nD) (t : Fin cfg0.N) (o : ℕ) (ho : o + 256 ≤ 5632) (inb : ∀ a, (![0, o] : Fin 2 → ℕ) a + (![3, 256] : Fin 2 → ℕ) a ≤ S3x5632.size a) :
    View.ld (iblk m c 5 t : Vec Ideal S3x5632 .f32) (Rect.unit ![0, o] ![3, 256] inb) = ldC m c t o := by
  funext y
  rw [View.ld_apply]
  refine Eq.trans ?_ (blk_c m c t (y 0) ⟨(o + (y 1).val) % 5632, Nat.mod_lt _ (by decide)⟩)
  refine congrArg _ (funext fun a => Fin.ext ?_)
  rw [Rect.idx_unit_val]
  have h1 : (y 1).val < 256 := (y 1).isLt
  match a with
  | ⟨0, _⟩ => exact (show 0 + (y 0).val = (y 0).val by omega)
  | ⟨1, _⟩ => exact (show o + (y 1).val = (o + (y 1).val) % 5632 by omega)

theorem ldB_eq (c : Dev nD) (t : Fin cfg0.N) (o : ℕ) (ho : o + 256 ≤ 5632) (inb : ∀ a, (![0, o] : Fin 2 → ℕ) a + (![1, 256] : Fin 2 → ℕ) a ≤ S1x5632.size a) :
    View.ld (iblk m c 6 t : Vec Ideal S1x5632 .f32) (Rect.unit ![0, o] ![1, 256] inb) = ldB m c t o := by
  funext y
  rw [View.ld_apply]
  refine Eq.trans ?_ (blk_b m c t ⟨(o + (y 1).val) % 5632, Nat.mod_lt _ (by decide)⟩)
  refine congrArg _ (funext fun a => Fin.ext ?_)
  rw [Rect.idx_unit_val]
  have h0 : (y 0).val < 1 := (y 0).isLt
  have h1 : (y 1).val < 256 := (y 1).isLt
  match a with
  | ⟨0, _⟩ => exact (show 0 + (y 0).val = 0 by omega)
  | ⟨1, _⟩ => exact (show o + (y 1).val = (o + (y 1).val) % 5632 by omega)

theorem rowS_eq (c : Dev nD) (t : Fin cfg0.N) (o : ℕ) (q : Fin 544) (x : Fin 256) (l : ℕ) (hl : t.val % 16 * 512 + q.val - 15 = l) :
    rowS (HX m c t) (ldW m c t o) q x = plin (aH m c) (aW m c) (bt t) l ⟨(o + x.val) % 5632, Nat.mod_lt _ (by decide)⟩ := by
  subst hl
  rfl

theorem cv_eq (c : Dev nD) (t : Fin cfg0.N) (o : ℕ) (r : Fin 512) (x : Fin 256) :
    cv (HX m c t) (ldW m c t o) (ldC m c t o) (ldB m c t o) (ix2 r x)
      = convE (aH m c) (aW m c) (aC m c) (aB m c) (bt t) (rw_ t r).val ⟨(o + x.val) % 5632, Nat.mod_lt _ (by decide)⟩ := by
  rw [cv_apply, rowS_eq m c t o _ x (rw_ t r).val (by simp only [rw_]; omega),
    rowS_eq m c t o _ x ((rw_ t r).val + 1) (by simp only [rw_]; omega), rowS_eq m c t o _ x ((rw_ t r).val + 2) (by simp only [rw_]; omega)]
  rfl

def AX (c : Dev nD) (t : Fin cfg0.N) : FVec Ideal S512x2816 .bf16 :=
  fun y => actE (aH m c) (aW m c) (aC m c) (aB m c) (bt t) (rw_ t (y 0)).val (y 1)

/-- The chunk of columns from `o` on is the product of its two halves' chunks. -/
theorem chunk_eq (c : Dev nD) (t : Fin cfg0.N) (o : ℕ) (ho : o + 256 ≤ 2816) (y : S512x256.Idx) (Y : S512x2816.Idx)
    (h0 : (Y 0).val = (y 0).val) (h1 : (Y 1).val = o + (y 1).val) :
    ac (cv (HX m c t) (ldW m c t o) (ldC m c t o) (ldB m c t o))
       (cv (HX m c t) (ldW m c t (2816 + o)) (ldC m c t (2816 + o)) (ldB m c t (2816 + o))) y = AX m c t Y := by
  have hy1 : (y 1).val < 256 := (y 1).isLt
  obtain ⟨r, x, rfl⟩ : ∃ (r : Fin 512) (x : Fin 256), y = ix2 r x := ⟨y 0, y 1, eq_ix2 y⟩
  obtain ⟨r', x', rfl⟩ : ∃ (r' : Fin 512) (x' : Fin 2816), Y = ix2 r' x' := ⟨Y 0, Y 1, eq_ix2 Y⟩
  obtain rfl : r' = r := Fin.ext h0
  have h1' : x'.val = o + x.val := h1
  have e1 : (⟨(o + x.val) % 5632, Nat.mod_lt _ (by decide)⟩ : Fin 5632) = ⟨x'.val, by omega⟩ := Fin.ext (by simp only []; omega)
  have e2 : (⟨(2816 + o + x.val) % 5632, Nat.mod_lt _ (by decide)⟩ : Fin 5632) = ⟨2816 + x'.val, by omega⟩ := Fin.ext (by simp only []; omega)
  rw [ac_apply, cv_eq, cv_eq, e1, e2]
  rfl

/-- The last part: the product with the down weights, the residual and the norm. -/
def fin_ (A : FVec Ideal S512x2816 .bf16) (D : FVec Ideal S2816x1024 .bf16) (X : FVec Ideal S1x512x1024 .f32) (G : FVec Ideal S1x1x1024 .f32) (Fg : FVec Ideal S1x1024 .f32) : FVec Ideal S1x512x1024 .f32 :=
  k0_pay1 (k0_pay73 A D X G) (k0_pay74 Fg)

theorem fin_apply (A D X G Fg) (r : Fin 512) (x : Fin 1024) :
    fin_ A D X G Fg (ix3 0 r x) = nrm (fun y => X (ix3 0 r y) + G (ix3 0 0 y) * ∑ j : Fin 2816, A (ix2 r j) * D (ix2 j y)) x * Fg (ix2 0 x) := by
  unfold fin_
  pointwise [k0_pay1, k0_pay73, k0_pay74]
  rfl

end Cert.FfnIdeal.Val

end
-- ==== Proof.FfnValue.lean ====
module

public import proofs.«01_k».proof.Proof.FfnCore

/-!
The array that the feed-forward kernel leaves.
-/

@[expose] public section

set_option maxRecDepth 16384

noncomputable section

open Idealize.ShloMosaic Idealize.ShloMosaic.TcCoe Idealize.SL.Sem
open Idealize.ShloMosaic.Pipeline (Dat)
open scoped BigOperators

namespace Cert.FfnIdeal.Val

open Cert.FfnIdeal Cert.FfnIdeal.Gen
open Cert.FfnReferenceIdeal.Val (hz plin convE silu actE x2E nrm outE out hz_in hz_out)

variable (m : (ℓ : Loc nD τ sig) → Buf (Elt Ideal) ℓ)

theorem emb_out (t : Fin cfg0.N) (y : ((cfg0.win 10).xblock (cfg0.grid.coords t)).Idx) (r : Fin 512) (x : Fin 1024)
    (hr : (y 1).val = r.val) (hx : (y 2).val = x.val) :
    ((View.whole main_v9).slice (win0_10.rect t)).emb y = ix3 (bt t) (rw_ t r) x := by
  blk_ext [idx t, bt, rw_]

theorem fin_eq (c : Dev nD) (t : Fin cfg0.N) (r : Fin 512) (x : Fin 1024) :
    fin_ (AX m c t) (iblk m c 7 t) (iblk m c 3 t) (iblk m c 8 t) (iblk m c 9 t) (ix3 0 r x)
      = outE (aX m c) (aH m c) (aG m c) (aW m c) (aC m c) (aB m c) (aD m c) (aF m c) (bt t) (rw_ t r) x := by
  refine (fin_apply _ _ _ _ _ r x).trans ?_
  unfold outE
  rw [blk_f]
  refine congrArg (fun v => nrm v x * aF m c (ix1 x)) (funext fun y => ?_)
  rw [blk_x, blk_g]
  exact congrArg (fun s : EReal => @HAdd.hAdd EReal EReal EReal _ (aX m c (ix3 (bt t) (rw_ t r) y)) (@HMul.hMul EReal EReal EReal _ (aG m c (ix3 (bt t) 0 y)) s))
    (Finset.sum_congr rfl fun j _ => congrArg _ (blk_d m c t j y))

set_option maxHeartbeats 2000000 in
theorem final (c : Dev nD) : (dats m 0 c).arrAt 10 (cfgs 0).N
    = out (aX m c) (aH m c) (aG m c) (aW m c) (aC m c) (aB m c) (aD m c) (aF m c) := by
  refine (dats m 0 c).arrAt_eq_of_covers 10 _ (by decide +kernel) fun t hf y => ?_
  blk_simp; rw [after0_10]
  unfold outsAt0; frame_out
  simp only [hext m c t]
  simp only [ldW_eq, ldC_eq, ldB_eq, Nat.reduceAdd, Nat.reduceLeDiff]
  rw [View.readCov_eq_canon']
  refine Eq.trans (congrArg (fun A => fin_ A (iblk m c 7 t) (iblk m c 3 t) (iblk m c 8 t) (iblk m c 9 t) y) (show _ = AX m c t from funext fun j => ?_)) ?_
  · refine (congrArg _ (show _ = j from ?_)).trans ?_
    · funext a
      refine Fin.ext ?_
      rw [Rect.idx_unit_val]
      match a with
      | ⟨0, _⟩ => exact (show 0 + (j 0).val = (j 0).val by omega)
      | ⟨1, _⟩ => exact (show 0 + (j 1).val = (j 1).val by omega)
    · canon_tiles x h
      case piece0 => exact (show _ = ac (cv (HX m c t) (ldW m c t 2560) (ldC m c t 2560) (ldB m c t 2560)) (cv (HX m c t) (ldW m c t 5376) (ldC m c t 5376) (ldB m c t 5376)) x from rfl).trans (chunk_eq m c t 2560 (by decide) x _ h0 h1)
      case piece1 => exact (show _ = ac (cv (HX m c t) (ldW m c t 2304) (ldC m c t 2304) (ldB m c t 2304)) (cv (HX m c t) (ldW m c t 5120) (ldC m c t 5120) (ldB m c t 5120)) x from rfl).trans (chunk_eq m c t 2304 (by decide) x _ h0 h1)
      case piece2 => exact (show _ = ac (cv (HX m c t) (ldW m c t 2048) (ldC m c t 2048) (ldB m c t 2048)) (cv (HX m c t) (ldW m c t 4864) (ldC m c t 4864) (ldB m c t 4864)) x from rfl).trans (chunk_eq m c t 2048 (by decide) x _ h0 h1)
      case piece3 => exact (show _ = ac (cv (HX m c t) (ldW m c t 1792) (ldC m c t 1792) (ldB m c t 1792)) (cv (HX m c t) (ldW m c t 4608) (ldC m c t 4608) (ldB m c t 4608)) x from rfl).trans (chunk_eq m c t 1792 (by decide) x _ h0 h1)
      case piece4 => exact (show _ = ac (cv (HX m c t) (ldW m c t 1536) (ldC m c t 1536) (ldB m c t 1536)) (cv (HX m c t) (ldW m c t 4352) (ldC m c t 4352) (ldB m c t 4352)) x from rfl).trans (chunk_eq m c t 1536 (by decide) x _ h0 h1)
      case piece5 => exact (show _ = ac (cv (HX m c t) (ldW m c t 1280) (ldC m c t 1280) (ldB m c t 1280)) (cv (HX m c t) (ldW m c t 4096) (ldC m c t 4096) (ldB m c t 4096)) x from rfl).trans (chunk_eq m c t 1280 (by decide) x _ h0 h1)
      case piece6 => exact (show _ = ac (cv (HX m c t) (ldW m c t 1024) (ldC m c t 1024) (ldB m c t 1024)) (cv (HX m c t) (ldW m c t 3840) (ldC m c t 3840) (ldB m c t 3840)) x from rfl).trans (chunk_eq m c t 1024 (by decide) x _ h0 h1)
      case piece7 => exact (show _ = ac (cv (HX m c t) (ldW m c t 768) (ldC m c t 768) (ldB m c t 768)) (cv (HX m c t) (ldW m c t 3584) (ldC m c t 3584) (ldB m c t 3584)) x from rfl).trans (chunk_eq m c t 768 (by decide) x _ h0 h1)
      case piece8 => exact (show _ = ac (cv (HX m c t) (ldW m c t 512) (ldC m c t 512) (ldB m c t 512)) (cv (HX m c t) (ldW m c t 3328) (ldC m c t 3328) (ldB m c t 3328)) x from rfl).trans (chunk_eq m c t 512 (by decide) x _ h0 h1)
      case piece9 => exact (show _ = ac (cv (HX m c t) (ldW m c t 256) (ldC m c t 256) (ldB m c t 256)) (cv (HX m c t) (ldW m c t 3072) (ldC m c t 3072) (ldB m c t 3072)) x from rfl).trans (chunk_eq m c t 256 (by decide) x _ h0 h1)
      case piece10 => exact (show _ = ac (cv (HX m c t) (ldW m c t 0) (ldC m c t 0) (ldB m c t 0)) (cv (HX m c t) (ldW m c t 2816) (ldC m c t 2816) (ldB m c t 2816)) x from rfl).trans (chunk_eq m c t 0 (by decide) x _ h0 (h1.trans (Nat.zero_add _).symm))
  · have y0 : (y 0).val < 1 := (y 0).isLt
    rw [emb_out t y (y 1) (y 2) rfl rfl]
    refine Eq.trans (congrArg _ (show y = ix3 0 (y 1) (y 2) from ?_)) (fin_eq m c t (y 1) (y 2))
    funext a
    match a with
    | ⟨0, _⟩ => exact Fin.ext (show (y 0).val = 0 by omega)
    | ⟨1, _⟩ => rfl
    | ⟨2, _⟩ => rfl

end Cert.FfnIdeal.Val

end
-- ==== Proof.FfnClaim.lean ====
module

public import proofs.«01_k».proof.Defs
public import proofs.«01_k».proof.Proof.FfnValue

/-!
The feed-forward kernel and its reference end with one result.
-/

@[expose] public section

noncomputable section

namespace Cert.Proof.Ffn

open Idealize.ShloMosaic Idealize.SL.Sem

theorem algebraic : Cert.algebraic_FfnIdeal_FfnReferenceIdeal (hFfnIdeal := Cert.FfnIdeal.Gen.facts)
    (hFfnReferenceIdeal := Cert.FfnReferenceIdeal.Gen.facts) := by
  pair_intro
  · run_from Cert.FfnIdeal.Value.run_blocks m g
  · run_from Cert.FfnReferenceIdeal.Value.run m' g'
    obtain ⟨a0, a1, a2, a3, a4, a5, a6, a7⟩ := hagree c
    refine Eq.trans ?_ (Cert.FfnIdeal.Val.final m c).symm
    rw [Cert.FfnReferenceIdeal.Val.final]
    rw [a0, a1, a2, a3, a4, a5, a6, a7]

end Cert.Proof.Ffn

end
-- ==== Proof.RefMerge.lean ====
module

public import proofs.«01_k».proof.Proof.Gen.MergeReferenceIdeal.Run
public import Idealize.ShloMosaic.Lib.Pipeline.ValueKit

/-!
The reference of the merge of the two branches, read entry by entry.
-/

@[expose] public section

set_option maxRecDepth 16384

noncomputable section

open Idealize.ShloMosaic Idealize.ShloMosaic.TcCoe Idealize.SL.Sem
open scoped BigOperators

namespace Cert.MergeReferenceIdeal.Val

open Cert.MergeReferenceIdeal Cert.MergeReferenceIdeal.Gen Idealize.ShloMosaic.StableHlo

abbrev X3 := FVec Ideal S2x8192x1024 .f32
abbrev Y3 := FVec Ideal S2x8192x2048 .f32
abbrev WS := FVec Ideal S1x2048x1024 .f32
abbrev WA := FVec Ideal S1x1024x1024 .f32
abbrev GT := FVec Ideal S2x1x1024 .f32
abbrev NG := FVec Ideal S1x1024 .f32

/-! ## Entries -/

/-- The gated sum of the two branches' projections. -/
def mixE (ys : Y3) (ya : X3) (gt : Y3) (ws : WS) (wa : WA) (b : Fin 2) (l : Fin 8192) (j : Fin 1024) : EReal :=
  gt (ix3 b l ⟨j.val, by omega⟩) * (∑ k : Fin 2048, ys (ix3 b l k) * ws (ix3 0 k j))
    + gt (ix3 b l ⟨1024 + j.val, by omega⟩) * (∑ k : Fin 1024, ya (ix3 b l k) * wa (ix3 0 k j))

def x1E (ys : Y3) (ya : X3) (gt : Y3) (x : X3) (ws : WS) (wa wo : WA) (g : GT) (b : Fin 2) (l : Fin 8192) (y : Fin 1024) : EReal :=
  x (ix3 b l y) + g (ix3 b 0 y) * ∑ j : Fin 1024, mixE ys ya gt ws wa b l j * wo (ix3 0 j y)

/-- A row over the root of the mean of its squares. -/
def nrm (v : Fin 1024 → EReal) (x : Fin 1024) : EReal :=
  v x * Ideal.rsqrt (Ideal.div (∑ y : Fin 1024, v y * v y) (Ideal.ofBits .f32 0x44800000#32) + Ideal.ofBits .f32 0x358637BD#32)

def h2E (v : Fin 1024 → EReal) (sh sc : GT) (ng : NG) (b : Fin 2) (y : Fin 1024) : EReal :=
  nrm v y * ng (ix2 0 y) * (1 + sc (ix3 b 0 y)) + sh (ix3 b 0 y)

def out1 (ys : Y3) (ya : X3) (gt : Y3) (x : X3) (ws : WS) (wa wo : WA) (g : GT) : X3 :=
  fun i => x1E ys ya gt x ws wa wo g (i 0) (i 1) (i 2)

def out2 (ys : Y3) (ya : X3) (gt : Y3) (x : X3) (ws : WS) (wa wo : WA) (g sh sc : GT) (ng : NG) : FVec Ideal S2x8192x1024 .bf16 :=
  fun i => h2E (x1E ys ya gt x ws wa wo g (i 0) (i 1)) sh sc ng (i 0) (i 2)

/-! ## The reference in stages -/

def mix (ys : Y3) (ya : X3) (gt : Y3) (ws : WS) (wa : WA) : X3 :=
  addf (mulf (extractStridedSlice S2x8192x1024 ![0, 0, 0] gt slices_S2x8192x2048_S2x8192x1024_0_0_0)
      (Host.dotGeneral dot_S2x8192x2048_S2048x1024_S2x8192x1024_2_0_01_1_n_n none ys (shapeCast _ ws shapeCasts_S1x2048x1024_S2048x1024)))
    (mulf (extractStridedSlice S2x8192x1024 ![0, 0, 1024] gt slices_S2x8192x2048_S2x8192x1024_0_0_1024)
      (Host.dotGeneral dot_S2x8192x1024_S1024x1024_S2x8192x1024_2_0_01_1_n_n none ya (shapeCast _ wa shapeCasts_S1x1024x1024_S1024x1024)))

def x1 (mx x : X3) (wo : WA) (g : GT) : X3 :=
  addf x (mulf (broadcastInDim S2x8192x1024 ![0, 1, 2] bcast_S2x1x1024_S2x8192x1024_0_1_2 g)
    (Host.dotGeneral dot_S2x8192x1024_S1024x1024_S2x8192x1024_2_0_01_1_n_n none mx (shapeCast _ wo shapeCasts_S1x1024x1024_S1024x1024)))

def one : GT := broadcastInDim S2x1x1024 ![] bcast_S_S2x1x1024 (constant S_ .f32 0x3F800000#32)

def h2 (v : X3) (sh sc : GT) (ng : NG) : FVec Ideal S2x8192x1024 .bf16 :=
  truncf .bf16 (addf (mulf (mulf (mulf v (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (axes := [2]) (mulf v v) (constant S_ .f32 0x00000000#32) reducesTo_S2x8192x1024_S2x8192_d2 h_S_))
    (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 (shapeCast _ ng shapeCasts_S1x1024_S1024))))
    (broadcastInDim S2x8192x1024 ![0, 1, 2] bcast_S2x1x1024_S2x8192x1024_0_1_2 (addf one sc)))
    (broadcastInDim S2x8192x1024 ![0, 1, 2] bcast_S2x1x1024_S2x8192x1024_0_1_2 sh)) bitsLt_bf16_f32

theorem mix_apply (ys ya gt ws wa) (b : Fin 2) (l : Fin 8192) (j : Fin 1024) :
    mix ys ya gt ws wa (ix3 b l j) = mixE ys ya gt ws wa b l j := by
  pointwise [mix]
  rfl

theorem x1_apply (ys ya gt x ws wa wo g) (b : Fin 2) (l : Fin 8192) (y : Fin 1024) :
    x1 (mix ys ya gt ws wa) x wo g (ix3 b l y) = x1E ys ya gt x ws wa wo g b l y := by
  pointwise [x1]
  simp only [mix_apply]
  rfl

theorem one_apply (b : Fin 2) (x : Fin 1024) : one (ix3 b 0 x) = 1 := Ideal.ofBits_one_f32

theorem h2_apply (v : X3) (sh sc ng) (b : Fin 2) (l : Fin 8192) (y : Fin 1024) :
    h2 v sh sc ng (ix3 b l y) = h2E (fun k => v (ix3 b l k)) sh sc ng b y := by
  pointwise [h2]
  rw [one_apply]
  rfl

variable (m : (ℓ : Loc nD τ sig) → Buf (Elt Ideal) ℓ) (c : Dev nD)

abbrev r0 := m ((c.tc : Thread nD τ).loc main_arg0)
abbrev r1 := m ((c.tc : Thread nD τ).loc main_arg1)
abbrev r2 := m ((c.tc : Thread nD τ).loc main_arg2)
abbrev r3 := m ((c.tc : Thread nD τ).loc main_arg3)
abbrev r4 := m ((c.tc : Thread nD τ).loc main_arg4)
abbrev r5 := m ((c.tc : Thread nD τ).loc main_arg5)
abbrev r6 := m ((c.tc : Thread nD τ).loc main_arg6)
abbrev r7 := m ((c.tc : Thread nD τ).loc main_arg7)
abbrev r8 := m ((c.tc : Thread nD τ).loc main_arg8)
abbrev r9 := m ((c.tc : Thread nD τ).loc main_arg9)
abbrev r10 := m ((c.tc : Thread nD τ).loc main_arg10)

theorem final1 : x1 (mix (r0 m c) (r1 m c) (r2 m c) (r4 m c) (r5 m c)) (r3 m c) (r6 m c) (r7 m c)
    = out1 (r0 m c) (r1 m c) (r2 m c) (r3 m c) (r4 m c) (r5 m c) (r6 m c) (r7 m c) := by
  funext i
  obtain ⟨b, l, x, rfl⟩ : ∃ (b : Fin 2) (l : Fin 8192) (x : Fin 1024), i = ix3 b l x := ⟨i 0, i 1, i 2, eq_ix3 i⟩
  rw [x1_apply]
  rfl

theorem res_eq : Value.res_main_v34 m c = h2 (x1 (mix (r0 m c) (r1 m c) (r2 m c) (r4 m c) (r5 m c)) (r3 m c) (r6 m c) (r7 m c)) (r8 m c) (r9 m c) (r10 m c) := rfl

theorem final2 : Value.res_main_v34 m c
    = out2 (r0 m c) (r1 m c) (r2 m c) (r3 m c) (r4 m c) (r5 m c) (r6 m c) (r7 m c) (r8 m c) (r9 m c) (r10 m c) := by
  rw [res_eq]
  funext i
  obtain ⟨b, l, x, rfl⟩ : ∃ (b : Fin 2) (l : Fin 8192) (x : Fin 1024), i = ix3 b l x := ⟨i 0, i 1, i 2, eq_ix3 i⟩
  rw [h2_apply]
  simp only [x1_apply]
  rfl

end Cert.MergeReferenceIdeal.Val

end
-- ==== Proof.MergeBlk.lean ====
module

public import proofs.«01_k».proof.Proof.Gen.MergeIdeal.Value
public import proofs.«01_k».proof.Proof.RefMerge
public import Idealize.ShloMosaic.Lib.Pipeline.ValueKit

/-!
The blocks that the merge kernel reads, in terms of the arguments.
-/

@[expose] public section

set_option maxRecDepth 16384

noncomputable section

open Idealize.ShloMosaic Idealize.ShloMosaic.TcCoe Idealize.SL.Sem
open Idealize.ShloMosaic.Pipeline (Dat)
open scoped BigOperators

namespace Cert.MergeIdeal.Val

open Cert.MergeIdeal Cert.MergeIdeal.Gen
open Cert.MergeReferenceIdeal.Val (mixE x1E nrm h2E out1 out2)

variable (m : (ℓ : Loc nD τ sig) → Buf (Elt Ideal) ℓ)

theorem idx : ∀ t : Fin cfg0.N, win0_0.index t = ![t.val / 16, t.val % 16, 0]
    ∧ win0_1.index t = ![t.val / 16, t.val % 16, 0]
    ∧ win0_2.index t = ![t.val / 16, t.val % 16, 1]
    ∧ win0_3.index t = ![t.val / 16, t.val % 16, 0]
    ∧ win0_4.index t = ![0, 0]
    ∧ win0_5.index t = ![0, 0]
    ∧ win0_6.index t = ![0, 0]
    ∧ win0_7.index t = ![t.val / 16, 0, 0]
    ∧ win0_8.index t = ![t.val / 16, 0, 0]
    ∧ win0_9.index t = ![t.val / 16, 0, 0]
    ∧ win0_10.index t = ![0, 0]
    ∧ win0_11.index t = ![t.val / 16, t.val % 16, 0]
    ∧ win0_12.index t = ![t.val / 16, t.val % 16, 0] :=
  (by decide +kernel : ∀ t : Fin grid0.N, _)

def bt (t : Fin cfg0.N) : Fin 2 := ⟨t.val / 16, by have := t.isLt; change _ < 32 at this; omega⟩
def rw_ (t : Fin cfg0.N) (r : Fin 512) : Fin 8192 := ⟨t.val % 16 * 512 + r.val, by omega⟩

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)
abbrev a10 (c : Dev nD) := m ((c : Thread nD τ).loc main_arg10)

theorem blk0 (c : Dev nD) (t : Fin cfg0.N) (r : Fin 512) (k : Fin 2048) : iblk m c 0 t (ix3 0 r k) = a0 m c (ix3 (bt t) (rw_ t r) k) := by
  blk_simp [iblk]
  entry_read
  pointwise
  blk_ext [idx t, bt, rw_]

theorem blk1 (c : Dev nD) (t : Fin cfg0.N) (r : Fin 512) (k : Fin 1024) : iblk m c 1 t (ix3 0 r k) = a1 m c (ix3 (bt t) (rw_ t r) k) := by
  blk_simp [iblk]
  entry_read
  pointwise
  blk_ext [idx t, bt, rw_]

theorem blk2 (c : Dev nD) (t : Fin cfg0.N) (r : Fin 512) (k : Fin 2048) : iblk m c 2 t (ix3 0 r k) = a2 m c (ix3 (bt t) (rw_ t r) k) := by
  blk_simp [iblk]
  entry_read
  pointwise
  rw [dif_neg (by blk_simp [idx t]; omega)]
  blk_ext [idx t, bt, rw_]

theorem blk3 (c : Dev nD) (t : Fin cfg0.N) (r : Fin 512) (k : Fin 1024) : iblk m c 3 t (ix3 0 r k) = a3 m c (ix3 (bt t) (rw_ t r) k) := by
  blk_simp [iblk]
  entry_read
  blk_ext [idx t, bt, rw_]

theorem blk4 (c : Dev nD) (t : Fin cfg0.N) (k : Fin 2048) (x : Fin 1024) : iblk m c 4 t (ix2 k x) = a4 m c (ix3 0 k x) := by
  blk_simp [iblk]
  entry_read
  pointwise
  blk_ext [idx t]

theorem blk5 (c : Dev nD) (t : Fin cfg0.N) (k : Fin 1024) (x : Fin 1024) : iblk m c 5 t (ix2 k x) = a5 m c (ix3 0 k x) := by
  blk_simp [iblk]
  entry_read
  pointwise
  blk_ext [idx t]

theorem blk6 (c : Dev nD) (t : Fin cfg0.N) (k : Fin 1024) (x : Fin 1024) : iblk m c 6 t (ix2 k x) = a6 m c (ix3 0 k x) := by
  blk_simp [iblk]
  entry_read
  pointwise
  blk_ext [idx t]

theorem blk7 (c : Dev nD) (t : Fin cfg0.N) (x : Fin 1024) : iblk m c 7 t (ix3 0 0 x) = a7 m c (ix3 (bt t) 0 x) := by
  blk_simp [iblk]
  entry_read
  blk_ext [idx t, bt]

theorem blk8 (c : Dev nD) (t : Fin cfg0.N) (x : Fin 1024) : iblk m c 8 t (ix3 0 0 x) = a8 m c (ix3 (bt t) 0 x) := by
  blk_simp [iblk]
  entry_read
  blk_ext [idx t, bt]

theorem blk9 (c : Dev nD) (t : Fin cfg0.N) (x : Fin 1024) : iblk m c 9 t (ix3 0 0 x) = a9 m c (ix3 (bt t) 0 x) := by
  blk_simp [iblk]
  entry_read
  blk_ext [idx t, bt]

theorem blk10 (c : Dev nD) (t : Fin cfg0.N) (x : Fin 1024) : iblk m c 10 t (ix2 0 x) = a10 m c (ix2 0 x) := by
  blk_simp [iblk]
  entry_read
  pointwise
  blk_ext [idx t]

theorem emb11 (t : Fin cfg0.N) (y : ((cfg0.win 11).xblock (cfg0.grid.coords t)).Idx) (r : Fin 512) (x : Fin 1024)
    (hr : (y 1).val = r.val) (hx : (y 2).val = x.val) :
    ((View.whole main_v13_0).slice (win0_11.rect t)).emb y = ix3 (bt t) (rw_ t r) x := by
  blk_ext [idx t, bt, rw_]

theorem emb12 (t : Fin cfg0.N) (y : ((cfg0.win 12).xblock (cfg0.grid.coords t)).Idx) (r : Fin 512) (x : Fin 1024)
    (hr : (y 1).val = r.val) (hx : (y 2).val = x.val) :
    ((View.whole main_v13_1).slice (win0_12.rect t)).emb y = ix3 (bt t) (rw_ t r) x := by
  blk_ext [idx t, bt, rw_]

end Cert.MergeIdeal.Val

end
-- ==== Proof.MergeValue.lean ====
module

public import proofs.«01_k».proof.Proof.MergeBlk
public import Idealize.ShloMosaic.Lib.Pipeline.ValueKit

/-!
The merge kernel's two results are the reference's.
-/

@[expose] public section

set_option maxRecDepth 16384

noncomputable section

open Idealize.ShloMosaic Idealize.ShloMosaic.TcCoe Idealize.SL.Sem
open Idealize.ShloMosaic.Pipeline (Dat)
open scoped BigOperators

namespace Cert.MergeIdeal.Val

open Cert.MergeIdeal Cert.MergeIdeal.Gen
open Cert.MergeReferenceIdeal.Val (mixE x1E nrm h2E out1 out2)

variable (m : (ℓ : Loc nD τ sig) → Buf (Elt Ideal) ℓ)

/-! ## One grid point -/

def mixB (Y : FVec Ideal S1x512x2048 .bf16) (WS : FVec Ideal S2048x1024 .bf16) (A : FVec Ideal S1x512x1024 .bf16) (WA : FVec Ideal S1024x1024 .bf16)
    (G : FVec Ideal S1x512x2048 .bf16) (r : Fin 512) (j : Fin 1024) : EReal :=
  G (ix3 0 r ⟨j.val, by omega⟩) * (∑ k : Fin 2048, Y (ix3 0 r k) * WS (ix2 k j))
    + G (ix3 0 r ⟨1024 + j.val, by omega⟩) * (∑ k : Fin 1024, A (ix3 0 r k) * WA (ix2 k j))

theorem pay3_apply (Y WS A WA G WO X T) (r : Fin 512) (y : Fin 1024) :
    k0_pay3 (F := Ideal) Y WS A WA G WO X T (ix2 r y) = @HAdd.hAdd EReal EReal EReal _ (X (ix3 0 r y))
      (@HMul.hMul EReal EReal EReal _ (T (ix3 0 0 y)) (∑ j : Fin 1024, mixB Y WS A WA G r j * WO (ix2 j y))) := by
  pointwise [k0_pay3]
  rfl

theorem x1_eq (c : Dev nD) (t : Fin cfg0.N) (r : Fin 512) (y : Fin 1024) :
    k0_pay3 (F := Ideal) (iblk m c 0 t) (iblk m c 4 t) (iblk m c 1 t) (iblk m c 5 t) (iblk m c 2 t) (iblk m c 6 t) (iblk m c 3 t) (iblk m c 7 t) (ix2 r y)
      = x1E (a0 m c) (a1 m c) (a2 m c) (a3 m c) (a4 m c) (a5 m c) (a6 m c) (a7 m c) (bt t) (rw_ t r) y := by
  rw [pay3_apply]
  unfold x1E
  rw [blk3, blk7]
  refine congrArg (fun s : EReal => @HAdd.hAdd EReal EReal EReal _ (a3 m c (ix3 (bt t) (rw_ t r) y)) (@HMul.hMul EReal EReal EReal _ (a7 m c (ix3 (bt t) 0 y)) s))
    (Finset.sum_congr rfl fun j _ => ?_)
  rw [blk6]
  refine congrArg (fun s : EReal => @HMul.hMul EReal EReal EReal _ s (a6 m c (ix3 0 j y))) ?_
  unfold mixB mixE
  simp only [blk0, blk1, blk2, blk4, blk5]

theorem pay1_apply (v : FVec Ideal S512x1024 .f32) (r : Fin 512) (x : Fin 1024) : k0_pay1 (F := Ideal) v (ix3 0 r x) = v (ix2 r x) := by
  pointwise [k0_pay1]

theorem pay2_apply (v : FVec Ideal S512x1024 .f32) (N : FVec Ideal S1x1024 .f32) (C S : FVec Ideal S1x1x1024 .f32) (r : Fin 512) (x : Fin 1024) :
    k0_pay2 (F := Ideal) v N C S (ix3 0 r x) = nrm (fun k => v (ix2 r k)) x * N (ix2 0 x) * (1 + C (ix3 0 0 x)) + S (ix3 0 0 x) := by
  pointwise [k0_pay2]
  rw [show (1 : EReal) = Ideal.ofBits .f32 0x3F800000#32 from Ideal.ofBits_one_f32.symm]
  rfl

theorem z2 : (![0, 0] : Fin 2 → ℕ) = fun _ => 0 := funext fun a => by fin_cases a <;> rfl
theorem z3 : (![0, 0, 0] : Fin 3 → ℕ) = fun _ => 0 := funext fun a => by fin_cases a <;> rfl

theorem ld0 (X : Vec Ideal S1x512x2048 EltTy.bf16) : View.ld X r0_0 = X := View.ld_unit_zero z3 _ X
theorem ld1 (X : Vec Ideal S2048x1024 EltTy.bf16) : View.ld X r0_1 = X := View.ld_unit_zero z2 _ X
theorem ld2 (X : Vec Ideal S1x512x1024 EltTy.bf16) : View.ld X r0_2 = X := View.ld_unit_zero z3 _ X
theorem ld2' (X : Vec Ideal S1x512x1024 EltTy.f32) : View.ld X r0_2 = X := View.ld_unit_zero z3 _ X
theorem ld3 (X : Vec Ideal S1024x1024 EltTy.bf16) : View.ld X r0_3 = X := View.ld_unit_zero z2 _ X
theorem ld4 (X : Vec Ideal S1x1x1024 EltTy.f32) : View.ld X r0_4 = X := View.ld_unit_zero z3 _ X
theorem ld5 (X : Vec Ideal S1x1024 EltTy.f32) : View.ld X r0_5 = X := View.ld_unit_zero z2 _ X

theorem pay4_eq (x0 x1 x2 x3 x4 x5 x6 x7 x8 x9 x10) :
    k0_pay4 (F := Ideal) x0 x1 x2 x3 x4 x5 x6 x7 x8 x9 x10 = k0_pay3 x0 x4 x1 x5 x2 x6 x3 x7 := by
  unfold k0_pay4
  rw [ld0, ld0, ld1, ld2, ld2', ld3, ld3, ld4]

theorem final11 (c : Dev nD) : (dats m 0 c).arrAt 11 (cfgs 0).N
    = out1 (a0 m c) (a1 m c) (a2 m c) (a3 m c) (a4 m c) (a5 m c) (a6 m c) (a7 m c) := by
  refine (dats m 0 c).arrAt_eq_of_covers 11 _ (by decide +kernel) fun t hf y => ?_
  blk_simp; rw [after0_11]
  canon_tiles y h
  case piece0 =>
    obtain ⟨z, r, x, rfl⟩ : ∃ (z : Fin 1) (r : Fin 512) (x : Fin 1024), y = ix3 z r x := ⟨y 0, y 1, y 2, eq_ix3 y⟩
    obtain rfl : z = 0 := Subsingleton.elim _ _
    rw [emb11 t _ r x h1 h2, pay4_eq]
    exact (pay1_apply _ r x).trans (x1_eq m c t r x)

theorem final12 (c : Dev nD) : (dats m 0 c).arrAt 12 (cfgs 0).N
    = out2 (a0 m c) (a1 m c) (a2 m c) (a3 m c) (a4 m c) (a5 m c) (a6 m c) (a7 m c) (a8 m c) (a9 m c) (a10 m c) := by
  refine (dats m 0 c).arrAt_eq_of_covers 12 _ (by decide +kernel) fun t hf y => ?_
  blk_simp; rw [after0_12]
  canon_tiles y h
  case piece0 =>
    obtain ⟨z, r, x, rfl⟩ : ∃ (z : Fin 1) (r : Fin 512) (x : Fin 1024), y = ix3 z r x := ⟨y 0, y 1, y 2, eq_ix3 y⟩
    obtain rfl : z = 0 := Subsingleton.elim _ _
    rw [emb12 t _ r x h1 h2, pay4_eq]
    refine (pay2_apply _ _ _ _ r x).trans ?_
    simp only [x1_eq]
    rw [ld4, ld4, ld5, blk8, blk9, blk10]
    rfl

end Cert.MergeIdeal.Val

end
-- ==== Proof.MergeClaim.lean ====
module

public import proofs.«01_k».proof.Defs
public import proofs.«01_k».proof.Proof.MergeValue

/-!
The merge kernel and its reference end with the same two results.
-/

@[expose] public section

noncomputable section

namespace Cert.Proof.Merge

open Idealize.ShloMosaic Idealize.SL.Sem

theorem algebraic : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Value.run_blocks m g
  · run_from Cert.MergeReferenceIdeal.Value.run m' g'
    · obtain ⟨a0, a1, a2, a3, a4, a5, a6, a7, a8, a9, a10⟩ := hagree c
      refine Eq.trans ?_ (Cert.MergeIdeal.Val.final11 m c).symm
      have h := Cert.MergeReferenceIdeal.Val.final1 m' c
      unfold Cert.MergeReferenceIdeal.Val.r0 Cert.MergeReferenceIdeal.Val.r1 Cert.MergeReferenceIdeal.Val.r2 Cert.MergeReferenceIdeal.Val.r3 Cert.MergeReferenceIdeal.Val.r4 Cert.MergeReferenceIdeal.Val.r5 Cert.MergeReferenceIdeal.Val.r6 Cert.MergeReferenceIdeal.Val.r7 at h
      rw [a0, a1, a2, a3, a4, a5, a6, a7] at h
      exact h
    · obtain ⟨a0, a1, a2, a3, a4, a5, a6, a7, a8, a9, a10⟩ := hagree c
      refine Eq.trans ?_ (Cert.MergeIdeal.Val.final12 m c).symm
      refine (Cert.MergeReferenceIdeal.Val.final2 m' c).trans ?_
      unfold Cert.MergeReferenceIdeal.Val.r0 Cert.MergeReferenceIdeal.Val.r1 Cert.MergeReferenceIdeal.Val.r2 Cert.MergeReferenceIdeal.Val.r3 Cert.MergeReferenceIdeal.Val.r4 Cert.MergeReferenceIdeal.Val.r5 Cert.MergeReferenceIdeal.Val.r6 Cert.MergeReferenceIdeal.Val.r7 Cert.MergeReferenceIdeal.Val.r8 Cert.MergeReferenceIdeal.Val.r9 Cert.MergeReferenceIdeal.Val.r10
      rw [a0, a1, a2, a3, a4, a5, a6, a7, a8, a9, a10]

end Cert.Proof.Merge

end
-- ==== Proof.GatesValue.lean ====
module

public import proofs.«01_k».proof.Proof.Gen.GatesIdeal.Value
public import proofs.«01_k».proof.Proof.Gen.GatesReferenceIdeal.Run
public import Idealize.ShloMosaic.Lib.Pipeline.ValueKit

/-!
The projection of the gates: the reference's term in stages, and the kernel's sixteen column tiles read against it.
-/

@[expose] public section

set_option maxRecDepth 16384

noncomputable section

open Idealize.ShloMosaic Idealize.ShloMosaic.TcCoe Idealize.SL.Sem
open Idealize.ShloMosaic.Pipeline (Dat)
open scoped BigOperators

namespace Cert.GatesReferenceIdeal.Val

open Cert.GatesReferenceIdeal Cert.GatesReferenceIdeal.Gen Idealize.ShloMosaic.StableHlo

def proj (h : FVec Ideal S2x8192x1024 .f32) (w : FVec Ideal S1x1024x8768 .f32) : FVec Ideal S2x8192x8768 .f32 :=
  Host.dotGeneral dot_S2x8192x1024_S1024x8768_S2x8192x8768_2_0_01_1_n_n none h (shapeCast _ w shapeCasts_S1x1024x8768_S1024x8768)

def one : FVec Ideal S2x8192x2048 .f32 := broadcastInDim S2x8192x2048 ![] bcast_S_S2x8192x2048 (constant S_ .f32 0x3F800000#32)

def sgm (v : FVec Ideal S2x8192x2048 .f32) : FVec Ideal S2x8192x2048 .f32 :=
  Host.divf one (addf one (Host.exp (Host.negf v)))

def res (h : FVec Ideal S2x8192x1024 .f32) (w : FVec Ideal S1x1024x8768 .f32) : FVec Ideal S2x8192x4096 .bf16 :=
  truncf .bf16 (concatenate S2x8192x4096 2
    [⟨S2x8192x2048, mulf (extractStridedSlice S2x8192x2048 ![0, 0, 0] (proj h w) slices_S2x8192x8768_S2x8192x2048_0_0_0)
        (sgm (extractStridedSlice S2x8192x2048 ![0, 0, 0] (proj h w) slices_S2x8192x8768_S2x8192x2048_0_0_0))⟩,
     ⟨S2x8192x2048, sgm (extractStridedSlice S2x8192x2048 ![0, 0, 6720] (proj h w) slices_S2x8192x8768_S2x8192x2048_0_0_6720)⟩]
    concatenates_S2x8192x2048_S2x8192x2048_S2x8192x4096_d2) bitsLt_bf16_f32

/-- The sum that one projected entry is. -/
def lin (h : FVec Ideal S2x8192x1024 .f32) (w : FVec Ideal S1x1024x8768 .f32) (b : Fin 2) (l : Fin 8192) (x : Fin 8768) : EReal :=
  ∑ k : Fin 1024, h (ix3 b l k) * w (ix3 0 k x)

theorem proj_apply (h w) (b : Fin 2) (l : Fin 8192) (x : Fin 8768) : proj h w (ix3 b l x) = lin h w b l x := by
  unfold lin
  pointwise [proj]

theorem one_apply (b : Fin 2) (l : Fin 8192) (x : Fin 2048) : one (ix3 b l x) = 1 := Ideal.ofBits_one_f32

theorem sgm_apply (v) (b : Fin 2) (l : Fin 8192) (x : Fin 2048) : sgm v (ix3 b l x) = Ideal.logistic (v (ix3 b l x)) := by
  pointwise [sgm]
  rw [one_apply]
  rfl

/-- A gate column is the sigmoid of a projected column. -/
theorem res_gate (h w) (b : Fin 2) (l : Fin 8192) (x : Fin 4096) (hx : 2048 ≤ x.val) :
    res h w (ix3 b l x) = Ideal.logistic (lin h w b l ⟨x.val + 4672, by omega⟩) := by
  pointwise [res]
  rw [dif_neg (by omega), sgm_apply]
  pointwise
  rw [proj_apply]
  exact congrArg (fun a => Ideal.logistic (lin h w b l a)) (Fin.ext (by dsimp; omega))

/-- A column of the first half is a projected column times its sigmoid. -/
theorem res_silu (h w) (b : Fin 2) (l : Fin 8192) (x : Fin 4096) (hx : x.val < 2048) :
    res h w (ix3 b l x) = Ideal.logistic (lin h w b l ⟨x.val, by omega⟩) * lin h w b l ⟨x.val, by omega⟩ := by
  pointwise [res]
  rw [dif_pos hx, sgm_apply]
  pointwise
  rw [proj_apply]
  exact mul_comm _ _

end Cert.GatesReferenceIdeal.Val

namespace Cert.GatesIdeal.Val

open Cert.GatesIdeal Cert.GatesIdeal.Gen

variable (m : (ℓ : Loc nD τ sig) → Buf (Elt Ideal) ℓ)

theorem idx : ∀ t : Fin cfg0.N, win0_0.index t = ![t.val / 8, t.val % 8, 0]
    ∧ win0_1.index t = ![0, 0]
    ∧ win0_2.index t = ![t.val / 8, t.val % 8, 0] :=
  (by decide +kernel : ∀ t : Fin grid0.N, _)

theorem blk_h (c : Dev nD) (t : Fin cfg0.N) (r : Fin 1024) (k : Fin 1024) :
    iblk m c 0 t (ix3 0 r k)
      = m ((c : Thread nD τ).loc main_arg0) (ix3 ⟨t.val / 8, by have := t.isLt; change _ < 16 at this; omega⟩ ⟨t.val % 8 * 1024 + r.val, by omega⟩ k) := by
  blk_simp [iblk]
  entry_read
  pointwise
  blk_ext [idx t]

theorem blk_w_lo (c : Dev nD) (t : Fin cfg0.N) (k : Fin 1024) (x : Fin 4096) (hx : x.val < 2048) :
    iblk m c 1 t (ix2 k x) = m ((c : Thread nD τ).loc main_arg1) (ix3 0 k ⟨x.val, by omega⟩) := by
  blk_simp [iblk]
  entry_read
  pointwise
  rw [dif_pos (by blk_simp [idx t]; omega)]
  blk_ext [idx t]

theorem blk_w_hi (c : Dev nD) (t : Fin cfg0.N) (k : Fin 1024) (x : Fin 4096) (hx : 2048 ≤ x.val) :
    iblk m c 1 t (ix2 k x) = m ((c : Thread nD τ).loc main_arg1) (ix3 0 k ⟨x.val + 4672, by omega⟩) := by
  blk_simp [iblk]
  entry_read
  pointwise
  rw [dif_neg (by blk_simp [idx t]; omega)]
  blk_ext [idx t]

theorem emb_out (t : Fin cfg0.N) (y : ((cfg0.win 2).xblock (cfg0.grid.coords t)).Idx) (r : Fin 1024) (x : Fin 4096)
    (hr : (y 1).val = r.val) (hx : (y 2).val = x.val) :
    ((View.whole main_v6).slice (win0_2.rect t)).emb y
      = ix3 (⟨t.val / 8, by have := t.isLt; change _ < 16 at this; omega⟩ : Fin 2) (⟨t.val % 8 * 1024 + r.val, by omega⟩ : Fin 8192) x := by
  blk_ext [idx t]

/-- A row of a block against a column of the weights. -/
def dotT (X : FVec Ideal S1x1024x1024 .bf16) (W : FVec Ideal S1024x4096 .bf16) (r : Fin 1024) (x : Fin 4096) : EReal :=
  ∑ k : Fin 1024, X (ix3 0 r k) * W (ix2 k x)

theorem lin_blk_lo (c : Dev nD) (t : Fin cfg0.N) (r : Fin 1024) (x : Fin 4096) (hx : x.val < 2048) :
    dotT (iblk m c 0 t) (iblk m c 1 t) r x
      = GatesReferenceIdeal.Val.lin (m ((c : Thread nD τ).loc main_arg0)) (m ((c : Thread nD τ).loc main_arg1))
          ⟨t.val / 8, by have := t.isLt; change _ < 16 at this; omega⟩ ⟨t.val % 8 * 1024 + r.val, by omega⟩ ⟨x.val, by omega⟩ :=
  Finset.sum_congr rfl fun k _ => by rw [blk_h, blk_w_lo m c t k x hx]

theorem lin_blk_hi (c : Dev nD) (t : Fin cfg0.N) (r : Fin 1024) (x : Fin 4096) (hx : 2048 ≤ x.val) :
    dotT (iblk m c 0 t) (iblk m c 1 t) r x
      = GatesReferenceIdeal.Val.lin (m ((c : Thread nD τ).loc main_arg0)) (m ((c : Thread nD τ).loc main_arg1))
          ⟨t.val / 8, by have := t.isLt; change _ < 16 at this; omega⟩ ⟨t.val % 8 * 1024 + r.val, by omega⟩ ⟨x.val + 4672, by omega⟩ :=
  Finset.sum_congr rfl fun k _ => by rw [blk_h, blk_w_hi m c t k x hx]

theorem gate_entry (c : Dev nD) (t : Fin cfg0.N) (y : ((cfg0.win 2).xblock (cfg0.grid.coords t)).Idx) (r : Fin 1024) (x : Fin 4096)
    (hr : (y 1).val = r.val) (hx : (y 2).val = x.val) (h : 2048 ≤ x.val) :
    Ideal.logistic (dotT (iblk m c 0 t) (iblk m c 1 t) r x)
      = GatesReferenceIdeal.Val.res (m ((c : Thread nD τ).loc main_arg0)) (m ((c : Thread nD τ).loc main_arg1))
          (((View.whole main_v6).slice (win0_2.rect t)).emb y) := by
  rw [emb_out t y r x hr hx, GatesReferenceIdeal.Val.res_gate _ _ _ _ _ h, lin_blk_hi m c t r x h]

theorem silu_entry (c : Dev nD) (t : Fin cfg0.N) (y : ((cfg0.win 2).xblock (cfg0.grid.coords t)).Idx) (r : Fin 1024) (x : Fin 4096)
    (hr : (y 1).val = r.val) (hx : (y 2).val = x.val) (h : x.val < 2048) :
    Ideal.logistic (dotT (iblk m c 0 t) (iblk m c 1 t) r x)
        * dotT (iblk m c 0 t) (iblk m c 1 t) r x
      = GatesReferenceIdeal.Val.res (m ((c : Thread nD τ).loc main_arg0)) (m ((c : Thread nD τ).loc main_arg1))
          (((View.whole main_v6).slice (win0_2.rect t)).emb y) := by
  rw [emb_out t y r x hr hx, GatesReferenceIdeal.Val.res_silu _ _ _ _ _ h, lin_blk_lo m c t r x h]

set_option maxHeartbeats 2000000 in
theorem final (c : Dev nD) : (dats m 0 c).arrAt 2 (cfgs 0).N
    = GatesReferenceIdeal.Val.res (m ((c : Thread nD τ).loc main_arg0)) (m ((c : Thread nD τ).loc main_arg1)) := by
  refine (dats m 0 c).arrAt_eq_of_covers 2 _ (by decide +kernel) fun t hf y => ?_
  blk_simp; rw [after0_2]
  canon_tiles y h
  case piece0 =>
    open_payloads
    pointwise
    exact gate_entry m c t _ (y 1) ⟨3840 + (y 2).val, by omega⟩ h1 h2 (Nat.le_add_right_of_le (by decide))
  case piece1 =>
    open_payloads
    pointwise
    exact gate_entry m c t _ (y 1) ⟨3584 + (y 2).val, by omega⟩ h1 h2 (Nat.le_add_right_of_le (by decide))
  case piece2 =>
    open_payloads
    pointwise
    exact gate_entry m c t _ (y 1) ⟨3328 + (y 2).val, by omega⟩ h1 h2 (Nat.le_add_right_of_le (by decide))
  case piece3 =>
    open_payloads
    pointwise
    exact gate_entry m c t _ (y 1) ⟨3072 + (y 2).val, by omega⟩ h1 h2 (Nat.le_add_right_of_le (by decide))
  case piece4 =>
    open_payloads
    pointwise
    exact gate_entry m c t _ (y 1) ⟨2816 + (y 2).val, by omega⟩ h1 h2 (Nat.le_add_right_of_le (by decide))
  case piece5 =>
    open_payloads
    pointwise
    exact gate_entry m c t _ (y 1) ⟨2560 + (y 2).val, by omega⟩ h1 h2 (Nat.le_add_right_of_le (by decide))
  case piece6 =>
    open_payloads
    pointwise
    exact gate_entry m c t _ (y 1) ⟨2304 + (y 2).val, by omega⟩ h1 h2 (Nat.le_add_right_of_le (by decide))
  case piece7 =>
    open_payloads
    pointwise
    exact gate_entry m c t _ (y 1) ⟨2048 + (y 2).val, by omega⟩ h1 h2 (Nat.le_add_right_of_le (by decide))
  case piece8 =>
    open_payloads
    pointwise
    exact silu_entry m c t _ (y 1) ⟨1792 + (y 2).val, by omega⟩ h1 h2 (show 1792 + (y 2).val < 2048 by omega)
  case piece9 =>
    open_payloads
    pointwise
    exact silu_entry m c t _ (y 1) ⟨1536 + (y 2).val, by omega⟩ h1 h2 (show 1536 + (y 2).val < 2048 by omega)
  case piece10 =>
    open_payloads
    pointwise
    exact silu_entry m c t _ (y 1) ⟨1280 + (y 2).val, by omega⟩ h1 h2 (show 1280 + (y 2).val < 2048 by omega)
  case piece11 =>
    open_payloads
    pointwise
    exact silu_entry m c t _ (y 1) ⟨1024 + (y 2).val, by omega⟩ h1 h2 (show 1024 + (y 2).val < 2048 by omega)
  case piece12 =>
    open_payloads
    pointwise
    exact silu_entry m c t _ (y 1) ⟨768 + (y 2).val, by omega⟩ h1 h2 (show 768 + (y 2).val < 2048 by omega)
  case piece13 =>
    open_payloads
    pointwise
    exact silu_entry m c t _ (y 1) ⟨512 + (y 2).val, by omega⟩ h1 h2 (show 512 + (y 2).val < 2048 by omega)
  case piece14 =>
    open_payloads
    pointwise
    exact silu_entry m c t _ (y 1) ⟨256 + (y 2).val, by omega⟩ h1 h2 (show 256 + (y 2).val < 2048 by omega)
  case piece15 =>
    open_payloads
    pointwise
    exact silu_entry m c t _ (y 1) ⟨(y 2).val, by omega⟩ h1 h2 (show (y 2).val < 2048 by omega)

end Cert.GatesIdeal.Val

end
-- ==== Proof.GatesClaim.lean ====
module

public import proofs.«01_k».proof.Defs
public import proofs.«01_k».proof.Proof.GatesValue

/-!
The gates' projection and its reference end with one result.
-/

@[expose] public section

noncomputable section

namespace Cert.Proof.Gates

open Idealize.ShloMosaic Idealize.SL.Sem

theorem algebraic : Cert.algebraic_GatesIdeal_GatesReferenceIdeal (hGatesIdeal := Cert.GatesIdeal.Gen.facts)
    (hGatesReferenceIdeal := Cert.GatesReferenceIdeal.Gen.facts) := by
  pair_intro
  · run_from Cert.GatesIdeal.Value.run_blocks m g
  · run_from Cert.GatesReferenceIdeal.Value.run m' g'
    exact (Cert.GatesIdeal.Val.final m c).symm

end Cert.Proof.Gates

end
-- ==== Proof.RefXbc.lean ====
module

public import proofs.«01_k».proof.Proof.Gen.XbcReferenceIdeal.Run
public import Idealize.ShloMosaic.Lib.Pipeline.ValueKit

/-!
The reference of the projection of x, B and C, read entry by entry.
-/

@[expose] public section

set_option maxRecDepth 16384

noncomputable section

open Idealize.ShloMosaic Idealize.ShloMosaic.TcCoe Idealize.SL.Sem
open scoped BigOperators

namespace Cert.XbcReferenceIdeal.Val

open Cert.XbcReferenceIdeal Cert.XbcReferenceIdeal.Gen Idealize.ShloMosaic.StableHlo

abbrev X3 := FVec Ideal S2x8192x1024 .f32
abbrev WI := FVec Ideal S1x1024x8768 .f32
abbrev CW := FVec Ideal S1x3x3072 .f32
abbrev CB := FVec Ideal S1x3072 .f32

/-! ## Entries -/

/-- Row `j` of the rows with one row of nothing before and after. -/
def hz (h : X3) (b : Fin 2) (j : ℕ) (k : Fin 1024) : EReal :=
  if hj : 1 ≤ j ∧ j < 8193 then h (ix3 b ⟨j - 1, by omega⟩ k) else 0

def plin (h : X3) (w : WI) (b : Fin 2) (j : ℕ) (x : Fin 3072) : EReal := ∑ k : Fin 1024, hz h b j k * w (ix3 0 k ⟨2048 + x.val, by omega⟩)

def convE (h : X3) (w : WI) (cw : CW) (cb : CB) (b : Fin 2) (l : ℕ) (x : Fin 3072) : EReal :=
  ((cw (ix3 0 0 x) * plin h w b l x + cw (ix3 0 1 x) * plin h w b (l + 1) x) + cw (ix3 0 2 x) * plin h w b (l + 2) x) + cb (ix2 0 x)

def silu (a : EReal) : EReal := a * Ideal.logistic a

def out (h : X3) (w : WI) (cw : CW) (cb : CB) : FVec Ideal S2x8192x3072 .bf16 :=
  fun i => silu (convE h w cw cb (i 0) (i 1).val (i 2))

/-! ## The reference in stages -/

def up (h : X3) (w : WI) : FVec Ideal S2x8192x3072 .f32 :=
  extractStridedSlice S2x8192x3072 ![0, 0, 2048] (Host.dotGeneral dot_S2x8192x1024_S1024x8768_S2x8192x8768_2_0_01_1_n_n none h (shapeCast _ w shapeCasts_S1x1024x8768_S1024x8768)) slices_S2x8192x8768_S2x8192x3072_0_0_2048

def padU (u : FVec Ideal S2x8192x3072 .f32) : FVec Ideal S2x8194x3072 .f32 :=
  pad S2x8194x3072 ![0, 1, 0] ![0, 1, 0] ![0, 0, 0] u (sitofp .f32 (constantI S_ 32 0#32)) pads_S2x8192x3072_S2x8194x3072_000_110_000 h_S_

def rowB (v : FVec Ideal S1x3072 .f32) : FVec Ideal S2x8192x3072 .f32 :=
  broadcastInDim S2x8192x3072 ![0, 1, 2] bcast_S1x1x3072_S2x8192x3072_0_1_2 (broadcastInDim S1x1x3072 ![2] bcast_S3072_S1x1x3072_2 (shapeCast _ v shapeCasts_S1x3072_S3072))

def conv (p : FVec Ideal S2x8194x3072 .f32) (cw : CW) (cb : CB) : FVec Ideal S2x8192x3072 .f32 :=
  addf (addf (addf
    (mulf (extractStridedSlice S2x8192x3072 ![0, 0, 0] p slices_S2x8194x3072_S2x8192x3072_0_0_0) (rowB (extractStridedSlice S1x3072 ![0, 0] (shapeCast _ cw shapeCasts_S1x3x3072_S3x3072) slices_S3x3072_S1x3072_0_0)))
    (mulf (extractStridedSlice S2x8192x3072 ![0, 1, 0] p slices_S2x8194x3072_S2x8192x3072_0_1_0) (rowB (extractStridedSlice S1x3072 ![1, 0] (shapeCast _ cw shapeCasts_S1x3x3072_S3x3072) slices_S3x3072_S1x3072_1_0))))
    (mulf (extractStridedSlice S2x8192x3072 ![0, 2, 0] p slices_S2x8194x3072_S2x8192x3072_0_2_0) (rowB (extractStridedSlice S1x3072 ![2, 0] (shapeCast _ cw shapeCasts_S1x3x3072_S3x3072) slices_S3x3072_S1x3072_2_0))))
    (rowB cb)

def one : FVec Ideal S2x8192x3072 .f32 := broadcastInDim S2x8192x3072 ![] bcast_S_S2x8192x3072 (constant S_ .f32 0x3F800000#32)

def sgm (v : FVec Ideal S2x8192x3072 .f32) : FVec Ideal S2x8192x3072 .f32 :=
  Host.divf one (addf one (Host.exp (Host.negf v)))

def act (v : FVec Ideal S2x8192x3072 .f32) : FVec Ideal S2x8192x3072 .bf16 := truncf .bf16 (mulf v (sgm v)) bitsLt_bf16_f32

theorem hz_in (h : X3) (b : Fin 2) (j : ℕ) (k : Fin 1024) (hj : 1 ≤ j ∧ j < 8193) : hz h b j k = h (ix3 b ⟨j - 1, by omega⟩ k) := dif_pos hj

theorem hz_out (h : X3) (b : Fin 2) (j : ℕ) (k : Fin 1024) (hj : ¬ (1 ≤ j ∧ j < 8193)) : hz h b j k = 0 := dif_neg hj

theorem up_apply (h w) (b : Fin 2) (l : Fin 8192) (x : Fin 3072) :
    up h w (ix3 b l x) = ∑ k : Fin 1024, h (ix3 b l k) * w (ix3 0 k ⟨2048 + x.val, by omega⟩) := by
  pointwise [up]

theorem padU_apply (h w) (b : Fin 2) (j : Fin 8194) (x : Fin 3072) : padU (up h w) (ix3 b j x) = plin h w b j.val x := by
  pointwise [padU]
  unfold plin
  split
  · rename_i hj
    rw [up_apply]
    refine Finset.sum_congr rfl fun k _ => ?_
    rw [hz_in h b j.val k (by omega)]
  · rename_i hj
    refine Eq.trans ?_ (Finset.sum_eq_zero fun k _ => ?_).symm
    · show (((0#32 : BitVec 32).toInt : ℝ) : EReal) = 0
      norm_num
    · rw [hz_out h b j.val k (by omega), zero_mul]

theorem conv_apply (h w cw cb) (b : Fin 2) (l : Fin 8192) (x : Fin 3072) :
    conv (padU (up h w)) cw cb (ix3 b l x) = convE h w cw cb b l.val x := by
  pointwise [conv, rowB]
  simp only [padU_apply]
  unfold convE
  rw [mul_comm (plin h w b l.val x), mul_comm (plin h w b (1 + l.val) x), mul_comm (plin h w b (2 + l.val) x), add_comm 1 l.val, add_comm 2 l.val]

theorem one_apply (b : Fin 2) (l : Fin 8192) (x : Fin 3072) : one (ix3 b l x) = 1 := Ideal.ofBits_one_f32

theorem sgm_apply (v) (b : Fin 2) (l : Fin 8192) (x : Fin 3072) : sgm v (ix3 b l x) = Ideal.logistic (v (ix3 b l x)) := by
  pointwise [sgm]
  rw [one_apply]
  rfl

theorem act_apply (h w cw cb) (b : Fin 2) (l : Fin 8192) (j : Fin 3072) :
    act (conv (padU (up h w)) cw cb) (ix3 b l j) = silu (convE h w cw cb b l.val j) := by
  pointwise [act]
  rw [sgm_apply]
  simp only [conv_apply]
  rfl

theorem res_eq (m : (ℓ : Loc nD τ sig) → Buf (Elt Ideal) ℓ) (c : Dev nD) :
    Value.res_main_v30 m c = act (conv (padU (up (m ((c.tc : Thread nD τ).loc main_arg0)) (m ((c.tc : Thread nD τ).loc main_arg1))))
      (m ((c.tc : Thread nD τ).loc main_arg2)) (m ((c.tc : Thread nD τ).loc main_arg3))) := rfl

theorem final (m : (ℓ : Loc nD τ sig) → Buf (Elt Ideal) ℓ) (c : Dev nD) :
    Value.res_main_v30 m c = out (m ((c.tc : Thread nD τ).loc main_arg0)) (m ((c.tc : Thread nD τ).loc main_arg1)) (m ((c.tc : Thread nD τ).loc main_arg2))
      (m ((c.tc : Thread nD τ).loc main_arg3)) := by
  rw [res_eq]
  funext i
  obtain ⟨b, l, x, rfl⟩ : ∃ (b : Fin 2) (l : Fin 8192) (x : Fin 3072), i = ix3 b l x := ⟨i 0, i 1, i 2, eq_ix3 i⟩
  rw [act_apply]
  rfl

end Cert.XbcReferenceIdeal.Val

end
-- ==== Proof.XbcBlk.lean ====
module

public import proofs.«01_k».proof.Proof.Gen.XbcIdeal.Value
public import proofs.«01_k».proof.Proof.RefXbc

/-!
The blocks that the kernel of the x, B and C projection reads, in terms of the arguments.
-/

@[expose] public section

set_option maxRecDepth 16384

noncomputable section

open Idealize.ShloMosaic Idealize.ShloMosaic.TcCoe Idealize.SL.Sem
open Idealize.ShloMosaic.Pipeline (Dat)
open scoped BigOperators

namespace Cert.XbcIdeal.Val

open Cert.XbcIdeal Cert.XbcIdeal.Gen
open Cert.XbcReferenceIdeal.Val (hz plin convE silu out hz_in hz_out)

variable (m : (ℓ : Loc nD τ sig) → Buf (Elt Ideal) ℓ)

theorem idx : ∀ t : Fin cfg0.N, win0_0.index t = ![t.val / 8, t.val % 8, 0]
    ∧ win0_1.index t = ![t.val / 8, t.val % 8 * 64 - 1, 0]
    ∧ win0_2.index t = ![t.val / 8, min (t.val % 8 * 64 + 64) 511, 0]
    ∧ win0_3.index t = ![0, 0]
    ∧ win0_4.index t = ![0, 0]
    ∧ win0_5.index t = ![0, 0]
    ∧ win0_6.index t = ![t.val / 8, t.val % 8, 0] :=
  (by decide +kernel : ∀ t : Fin grid0.N, _)

def bt (t : Fin cfg0.N) : Fin 2 := ⟨t.val / 8, by have := t.isLt; change _ < 16 at this; omega⟩
def rw_ (t : Fin cfg0.N) (r : Fin 1024) : Fin 8192 := ⟨t.val % 8 * 1024 + r.val, by omega⟩

abbrev aH (c : Dev nD) := m ((c : Thread nD τ).loc main_arg0)
abbrev aW (c : Dev nD) := m ((c : Thread nD τ).loc main_arg1)
abbrev aC (c : Dev nD) := m ((c : Thread nD τ).loc main_arg2)
abbrev aB (c : Dev nD) := m ((c : Thread nD τ).loc main_arg3)

theorem blk_h (c : Dev nD) (t : Fin cfg0.N) (r : Fin 1024) (k : Fin 1024) :
    iblk m c 0 t (ix3 0 r k) = aH m c (ix3 (bt t) (rw_ t r) k) := by
  blk_simp [iblk]
  entry_read
  pointwise
  blk_ext [idx t, bt, rw_]

theorem blk_top (c : Dev nD) (t : Fin cfg0.N) (r : Fin 16) (k : Fin 1024) :
    iblk m c 1 t (ix3 0 r k) = aH m c (ix3 (bt t) ⟨(t.val % 8 * 64 - 1) * 16 + r.val, by omega⟩ k) := by
  blk_simp [iblk]
  entry_read
  pointwise
  blk_ext [idx t, bt]

theorem blk_bot (c : Dev nD) (t : Fin cfg0.N) (r : Fin 16) (k : Fin 1024) :
    iblk m c 2 t (ix3 0 r k) = aH m c (ix3 (bt t) ⟨(min (t.val % 8 * 64 + 64) 511) * 16 + r.val, by omega⟩ k) := by
  blk_simp [iblk]
  entry_read
  pointwise
  blk_ext [idx t, bt]

theorem blk_w (c : Dev nD) (t : Fin cfg0.N) (k : Fin 1024) (x : Fin 3072) :
    iblk m c 3 t (ix2 k x) = aW m c (ix3 0 k ⟨2048 + x.val, by omega⟩) := by
  blk_simp [iblk]
  entry_read
  pointwise
  blk_ext [idx t]

theorem blk_c (c : Dev nD) (t : Fin cfg0.N) (k : Fin 3) (x : Fin 3072) :
    iblk m c 4 t (ix2 k x) = aC m c (ix3 0 k x) := by
  blk_simp [iblk]
  entry_read
  pointwise
  blk_ext [idx t]

theorem blk_b (c : Dev nD) (t : Fin cfg0.N) (x : Fin 3072) :
    iblk m c 5 t (ix2 0 x) = aB m c (ix2 0 x) := by
  blk_simp [iblk]
  entry_read
  pointwise
  blk_ext [idx t]

/-! ## The rows with their neighbours -/

def HX (c : Dev nD) (t : Fin cfg0.N) : FVec Ideal S1056x1024 .bf16 :=
  fun y => hz (aH m c) (bt t) (t.val % 8 * 1024 + (y 0).val - 15) (y 1)

theorem coord (t : Fin cfg0.N) : ((grid0.coords t) 1).val = t.val % 8 :=
  (by decide +kernel : ∀ t : Fin grid0.N, ((grid0.coords t) 1).val = t.val % 8) t

theorem cmp_top (t : Fin cfg0.N) : Scalar.cmpi .eq (BitVec.ofNat 32 (t.val % 8)) 0#32 = if t.val % 8 = 0 then 1#1 else 0#1 :=
  (by decide +kernel : ∀ n : Fin 8, Scalar.cmpi .eq (BitVec.ofNat 32 n.val) 0#32 = if n.val = 0 then 1#1 else 0#1) ⟨t.val % 8, by omega⟩

theorem cmp_bot (t : Fin cfg0.N) : Scalar.cmpi .eq (BitVec.ofNat 32 (t.val % 8)) 7#32 = if t.val % 8 = 7 then 1#1 else 0#1 :=
  (by decide +kernel : ∀ n : Fin 8, Scalar.cmpi .eq (BitVec.ofNat 32 n.val) 7#32 = if n.val = 7 then 1#1 else 0#1) ⟨t.val % 8, by omega⟩

theorem select_one (a b : EReal) : Scalar.select 1#1 a b = a := rfl

theorem select_zero (a b : EReal) : Scalar.select 0#1 a b = b := rfl

theorem top_eq (c : Dev nD) (t : Fin cfg0.N) (r : Fin 16) (k : Fin 1024) :
    k0_pay2 (grid0.coords t) (iblk m c 1 t) (ix2 r k) = hz (aH m c) (bt t) (t.val % 8 * 1024 + r.val - 15) k := by
  pointwise [k0_pay2]
  rw [coord, cmp_top, blk_top]
  by_cases h : t.val % 8 = 0
  · rw [if_pos h, select_one, hz_out _ _ _ _ (by omega)]
  · rw [if_neg h, select_zero, hz_in _ _ _ _ (by omega)]
    congr 2
    exact Fin.ext (by simp only []; omega)

theorem mid_eq (c : Dev nD) (t : Fin cfg0.N) (r : Fin 1024) (k : Fin 1024) :
    k0_pay3 (iblk m c 0 t) (ix2 r k) = hz (aH m c) (bt t) (t.val % 8 * 1024 + (16 + r.val) - 15) k := by
  pointwise [k0_pay3]
  rw [blk_h, hz_in _ _ _ _ (by omega)]
  congr 2
  exact Fin.ext (by simp only [rw_]; omega)

theorem bot_eq (c : Dev nD) (t : Fin cfg0.N) (r : Fin 16) (k : Fin 1024) :
    k0_pay4 (grid0.coords t) (iblk m c 2 t) (ix2 r k) = hz (aH m c) (bt t) (t.val % 8 * 1024 + (1040 + r.val) - 15) k := by
  pointwise [k0_pay4]
  rw [coord, cmp_bot, blk_bot]
  by_cases h : t.val % 8 = 7
  · rw [if_pos h, select_one, hz_out _ _ _ _ (by omega)]
  · rw [if_neg h, select_zero, hz_in _ _ _ _ (by omega)]
    congr 2
    exact Fin.ext (by simp only []; omega)

end Cert.XbcIdeal.Val

end
-- ==== Proof.XbcCore.lean ====
module

public import proofs.«01_k».proof.Proof.XbcBlk
public import Idealize.ShloMosaic.Lib.Pipeline.ValueKit
public import Idealize.ShloMosaic.Lib.Pipeline.ReadBack

/-!
The kernel of the x, B and C projection at one grid point: the rows with their neighbours, one chunk of columns.
-/

@[expose] public section

set_option maxRecDepth 16384

noncomputable section

open Idealize.ShloMosaic Idealize.ShloMosaic.TcCoe Idealize.SL.Sem
open Idealize.ShloMosaic.Pipeline (Dat)
open scoped BigOperators

namespace Cert.XbcIdeal.Val

open Cert.XbcIdeal Cert.XbcIdeal.Gen
open Cert.XbcReferenceIdeal.Val (hz plin convE silu out hz_in hz_out)

variable (m : (ℓ : Loc nD τ sig) → Buf (Elt Ideal) ℓ)

theorem hext_canon (c : Dev nD) (t : Fin cfg0.N) (y : S1056x1024.Idx) :
    View.canon (Val := Elt Ideal) (s := S1056x1024) (e := .bf16) [⟨Rect.unit ![1040, 0] ![16, 1024] inb_S1056x1024_S16x1024_1040_0, k0_pay4 (grid0.coords t) (iblk m c 2 t)⟩,
      ⟨Rect.unit ![16, 0] ![1024, 1024] inb_S1056x1024_S1024x1024_16_0, k0_pay3 (iblk m c 0 t)⟩,
      ⟨Rect.unit ![0, 0] ![16, 1024] inb_S1056x1024_S16x1024_0_0, k0_pay2 (grid0.coords t) (iblk m c 1 t)⟩] y
      = HX m c t y := by
  have hy0 : (y 0).val < 1056 := (y 0).isLt
  have hy1 : (y 1).val < 1024 := (y 1).isLt
  have cov : ∃ p ∈ ([⟨Rect.unit ![1040, 0] ![16, 1024] inb_S1056x1024_S16x1024_1040_0, k0_pay4 (grid0.coords t) (iblk m c 2 t)⟩,
      ⟨Rect.unit ![16, 0] ![1024, 1024] inb_S1056x1024_S1024x1024_16_0, k0_pay3 (iblk m c 0 t)⟩,
      ⟨Rect.unit ![0, 0] ![16, 1024] inb_S1056x1024_S16x1024_0_0, k0_pay2 (grid0.coords t) (iblk m c 1 t)⟩] : List (View.Piece (Elt Ideal) S1056x1024 .bf16)), y ∈ p.1.set := by
    by_cases hb : 1040 ≤ (y 0).val
    · refine ⟨_, List.mem_cons_self, ?_⟩; refine (Rect.mem_set_unit (inb := inb_S1056x1024_S16x1024_1040_0)).mpr fun a => ?_
      match a with
      | ⟨0, _⟩ => exact ⟨hb, (show (y 0).val < 1040 + 16 by omega)⟩
      | ⟨1, _⟩ => exact ⟨Nat.zero_le _, (show (y 1).val < 0 + 1024 by omega)⟩
    · by_cases hc : 16 ≤ (y 0).val
      · refine ⟨_, List.mem_cons_of_mem _ List.mem_cons_self, ?_⟩; refine (Rect.mem_set_unit (inb := inb_S1056x1024_S1024x1024_16_0)).mpr fun a => ?_
        match a with
        | ⟨0, _⟩ => exact ⟨hc, (show (y 0).val < 16 + 1024 by omega)⟩
        | ⟨1, _⟩ => exact ⟨Nat.zero_le _, (show (y 1).val < 0 + 1024 by omega)⟩
      · refine ⟨_, List.mem_cons_of_mem _ (List.mem_cons_of_mem _ List.mem_cons_self), ?_⟩; refine (Rect.mem_set_unit (inb := inb_S1056x1024_S16x1024_0_0)).mpr fun a => ?_
        match a with
        | ⟨0, _⟩ => exact ⟨Nat.zero_le _, (show (y 0).val < 0 + 16 by omega)⟩
        | ⟨1, _⟩ => exact ⟨Nat.zero_le _, (show (y 1).val < 0 + 1024 by omega)⟩
  canon_tiles y h using cov
  case piece0 y' =>
    rw [eq_ix2 y]
    exact (bot_eq m c t (y 0) (y 1)).trans (by unfold HX; rw [h0, show y' 1 = y 1 from Fin.ext h1])
  case piece1 y' =>
    rw [eq_ix2 y]
    exact (mid_eq m c t (y 0) (y 1)).trans (by unfold HX; rw [h0, show y' 1 = y 1 from Fin.ext h1])
  case piece2 y' =>
    rw [eq_ix2 y]
    exact (top_eq m c t (y 0) (y 1)).trans (by unfold HX; rw [h0, show y' 1 = y 1 from Fin.ext h1])

theorem hext (c : Dev nD) (t : Fin cfg0.N) :
    (View.whole cc0_scratch0).readCov (Val := Elt Ideal) [⟨Rect.unit ![1040, 0] ![16, 1024] inb_S1056x1024_S16x1024_1040_0, k0_pay4 (grid0.coords t) (iblk m c 2 t)⟩,
      ⟨Rect.unit ![16, 0] ![1024, 1024] inb_S1056x1024_S1024x1024_16_0, k0_pay3 (iblk m c 0 t)⟩,
      ⟨Rect.unit ![0, 0] ![16, 1024] inb_S1056x1024_S16x1024_0_0, k0_pay2 (grid0.coords t) (iblk m c 1 t)⟩]
      (Rect.unit ![0, 0] ![1056, 1024] inb_S1056x1024_S1056x1024_0_0).toLoadRect = HX m c t := by
  rw [View.readCov_eq_canon']
  funext j
  refine (congrArg _ ?_).trans (hext_canon m c t j)
  funext a
  refine Fin.ext ?_
  rw [Rect.idx_unit_val]
  match a with
  | ⟨0, _⟩ => exact (show 0 + (j 0).val = (j 0).val by omega)
  | ⟨1, _⟩ => exact (show 0 + (j 1).val = (j 1).val by omega)

/-- A chunk of 256 columns of the convolved rows. -/
def cv (X : FVec Ideal S1056x1024 .bf16) (W : FVec Ideal S1024x256 .bf16) (C : FVec Ideal S3x256 .f32) (B : FVec Ideal S1x256 .f32) : FVec Ideal S1024x256 .f32 :=
  let u := matmul dot_S1056x1024_S1024x256_S1056x256_1_0_0_1_n_n none X (shapeCast S1024x256 W shapeCasts_S1024x256_S1024x256) (constant S1056x256 .f32 0x00000000#32)
  let C' := shapeCast S3x256 C shapeCasts_S3x256_S3x256
  addf (addf (addf
    (mulf (broadcastTo S1024x256 (extractStridedSlice S1x256 ![0, 0] C' slices_S3x256_o0_0_S1x256) broadcasts_S1x256_S1024x256)
      (extractStridedSlice S1024x256 ![16, 0] (dynamicRotate 0 1#32 none u rotates_S1056x256_d0) slices_S1056x256_o16_0_S1024x256))
    (mulf (broadcastTo S1024x256 (extractStridedSlice S1x256 ![1, 0] C' slices_S3x256_o1_0_S1x256) broadcasts_S1x256_S1024x256)
      (extractStridedSlice S1024x256 ![16, 0] u slices_S1056x256_o16_0_S1024x256)))
    (mulf (broadcastTo S1024x256 (extractStridedSlice S1x256 ![2, 0] C' slices_S3x256_o2_0_S1x256) broadcasts_S1x256_S1024x256)
      (extractStridedSlice S1024x256 ![16, 0] (dynamicRotate 0 1055#32 none u rotates_S1056x256_d0) slices_S1056x256_o16_0_S1024x256)))
    (broadcastTo S1024x256 (shapeCast S1x256 B shapeCasts_S1x256_S1x256) broadcasts_S1x256_S1024x256)

def ac (A : FVec Ideal S1024x256 .f32) : FVec Ideal S1x1024x256 .bf16 :=
  shapeCast S1x1024x256 (truncf .bf16 (mulf A (logistic A)) bitsLt_bf16_f32) shapeCasts_S1024x256_S1x1024x256

def rowS (X : FVec Ideal S1056x1024 .bf16) (W : FVec Ideal S1024x256 .bf16) (q : Fin 1056) (x : Fin 256) : EReal := ∑ k : Fin 1024, X (ix2 q k) * W (ix2 k x)

theorem cv_apply (X W C B) (r : Fin 1024) (x : Fin 256) :
    cv X W C B (ix2 r x) = ((C (ix2 0 x) * rowS X W ⟨r.val + 15, by omega⟩ x + C (ix2 1 x) * rowS X W ⟨r.val + 16, by omega⟩ x)
      + C (ix2 2 x) * rowS X W ⟨r.val + 17, by omega⟩ x) + B (ix2 0 x) := by
  unfold cv
  pointwise
  have e0 : ∀ h, (⟨(16 + r.val + 1056 - 1) % 1056, h⟩ : Fin 1056) = ⟨r.val + 15, by omega⟩ := fun h => Fin.ext (by simp only []; omega)
  have e1 : ∀ h, (⟨16 + r.val, h⟩ : Fin 1056) = ⟨r.val + 16, by omega⟩ := fun h => Fin.ext (by simp only []; omega)
  have e2 : ∀ h, (⟨(16 + r.val + 1056 - 1055) % 1056, h⟩ : Fin 1056) = ⟨r.val + 17, by omega⟩ := fun h => Fin.ext (by simp only []; omega)
  simp only [e0, e1, e2]
  rfl

theorem ac_apply (A) (r : Fin 1024) (x : Fin 256) : ac A (ix3 0 r x) = silu (A (ix2 r x)) := by
  pointwise [ac]
  rfl

/-! ## A chunk against the arguments -/

def ldW (c : Dev nD) (t : Fin cfg0.N) (o : ℕ) : FVec Ideal S1024x256 .bf16 := fun y => aW m c (ix3 0 (y 0) ⟨2048 + (o + (y 1).val) % 3072, by omega⟩)
def ldC (c : Dev nD) (t : Fin cfg0.N) (o : ℕ) : FVec Ideal S3x256 .f32 := fun y => aC m c (ix3 0 (y 0) ⟨(o + (y 1).val) % 3072, Nat.mod_lt _ (by decide)⟩)
def ldB (c : Dev nD) (t : Fin cfg0.N) (o : ℕ) : FVec Ideal S1x256 .f32 := fun y => aB m c (ix2 0 ⟨(o + (y 1).val) % 3072, Nat.mod_lt _ (by decide)⟩)

theorem ldW_eq (c : Dev nD) (t : Fin cfg0.N) (o : ℕ) (ho : o + 256 ≤ 3072) (inb : ∀ a, (![0, o] : Fin 2 → ℕ) a + (![1024, 256] : Fin 2 → ℕ) a ≤ S1024x3072.size a) :
    View.ld (iblk m c 3 t : Vec Ideal S1024x3072 .bf16) (Rect.unit ![0, o] ![1024, 256] inb) = ldW m c t o := by
  funext y
  rw [View.ld_apply]
  refine Eq.trans ?_ (blk_w m c t (y 0) ⟨(o + (y 1).val) % 3072, Nat.mod_lt _ (by decide)⟩)
  refine congrArg _ (funext fun a => Fin.ext ?_)
  rw [Rect.idx_unit_val]
  have h1 : (y 1).val < 256 := (y 1).isLt
  match a with
  | ⟨0, _⟩ => exact (show 0 + (y 0).val = (y 0).val by omega)
  | ⟨1, _⟩ => exact (show o + (y 1).val = (o + (y 1).val) % 3072 by omega)

theorem ldC_eq (c : Dev nD) (t : Fin cfg0.N) (o : ℕ) (ho : o + 256 ≤ 3072) (inb : ∀ a, (![0, o] : Fin 2 → ℕ) a + (![3, 256] : Fin 2 → ℕ) a ≤ S3x3072.size a) :
    View.ld (iblk m c 4 t : Vec Ideal S3x3072 .f32) (Rect.unit ![0, o] ![3, 256] inb) = ldC m c t o := by
  funext y
  rw [View.ld_apply]
  refine Eq.trans ?_ (blk_c m c t (y 0) ⟨(o + (y 1).val) % 3072, Nat.mod_lt _ (by decide)⟩)
  refine congrArg _ (funext fun a => Fin.ext ?_)
  rw [Rect.idx_unit_val]
  have h1 : (y 1).val < 256 := (y 1).isLt
  match a with
  | ⟨0, _⟩ => exact (show 0 + (y 0).val = (y 0).val by omega)
  | ⟨1, _⟩ => exact (show o + (y 1).val = (o + (y 1).val) % 3072 by omega)

theorem ldB_eq (c : Dev nD) (t : Fin cfg0.N) (o : ℕ) (ho : o + 256 ≤ 3072) (inb : ∀ a, (![0, o] : Fin 2 → ℕ) a + (![1, 256] : Fin 2 → ℕ) a ≤ S1x3072.size a) :
    View.ld (iblk m c 5 t : Vec Ideal S1x3072 .f32) (Rect.unit ![0, o] ![1, 256] inb) = ldB m c t o := by
  funext y
  rw [View.ld_apply]
  refine Eq.trans ?_ (blk_b m c t ⟨(o + (y 1).val) % 3072, Nat.mod_lt _ (by decide)⟩)
  refine congrArg _ (funext fun a => Fin.ext ?_)
  rw [Rect.idx_unit_val]
  have h0 : (y 0).val < 1 := (y 0).isLt
  have h1 : (y 1).val < 256 := (y 1).isLt
  match a with
  | ⟨0, _⟩ => exact (show 0 + (y 0).val = 0 by omega)
  | ⟨1, _⟩ => exact (show o + (y 1).val = (o + (y 1).val) % 3072 by omega)

theorem rowS_eq (c : Dev nD) (t : Fin cfg0.N) (o : ℕ) (q : Fin 1056) (x : Fin 256) (l : ℕ) (hl : t.val % 8 * 1024 + q.val - 15 = l) :
    rowS (HX m c t) (ldW m c t o) q x = plin (aH m c) (aW m c) (bt t) l ⟨(o + x.val) % 3072, Nat.mod_lt _ (by decide)⟩ := by
  subst hl
  rfl

theorem cv_eq (c : Dev nD) (t : Fin cfg0.N) (o : ℕ) (r : Fin 1024) (x : Fin 256) :
    cv (HX m c t) (ldW m c t o) (ldC m c t o) (ldB m c t o) (ix2 r x)
      = convE (aH m c) (aW m c) (aC m c) (aB m c) (bt t) (rw_ t r).val ⟨(o + x.val) % 3072, Nat.mod_lt _ (by decide)⟩ := by
  rw [cv_apply, rowS_eq m c t o _ x (rw_ t r).val (by simp only [rw_]; omega),
    rowS_eq m c t o _ x ((rw_ t r).val + 1) (by simp only [rw_]; omega), rowS_eq m c t o _ x ((rw_ t r).val + 2) (by simp only [rw_]; omega)]
  rfl

theorem chunk_eq (c : Dev nD) (t : Fin cfg0.N) (o : ℕ) (ho : o + 256 ≤ 3072) (r : Fin 1024) (x : Fin 256) (x' : Fin 3072) (hx : x'.val = o + x.val) :
    ac (cv (HX m c t) (ldW m c t o) (ldC m c t o) (ldB m c t o)) (ix3 0 r x)
      = silu (convE (aH m c) (aW m c) (aC m c) (aB m c) (bt t) (rw_ t r).val x') := by
  have e1 : (⟨(o + x.val) % 3072, Nat.mod_lt _ (by decide)⟩ : Fin 3072) = x' := Fin.ext (by simp only []; omega)
  rw [ac_apply, cv_eq, e1]

end Cert.XbcIdeal.Val

end
-- ==== Proof.XbcValue.lean ====
module

public import proofs.«01_k».proof.Proof.XbcCore

/-!
The array that the kernel of the x, B and C projection leaves.
-/

@[expose] public section

set_option maxRecDepth 16384

noncomputable section

open Idealize.ShloMosaic Idealize.ShloMosaic.TcCoe Idealize.SL.Sem
open Idealize.ShloMosaic.Pipeline (Dat)
open scoped BigOperators

namespace Cert.XbcIdeal.Val

open Cert.XbcIdeal Cert.XbcIdeal.Gen
open Cert.XbcReferenceIdeal.Val (hz plin convE silu out hz_in hz_out)

variable (m : (ℓ : Loc nD τ sig) → Buf (Elt Ideal) ℓ)

theorem emb_out (t : Fin cfg0.N) (y : ((cfg0.win 6).xblock (cfg0.grid.coords t)).Idx) (r : Fin 1024) (x : Fin 3072)
    (hr : (y 1).val = r.val) (hx : (y 2).val = x.val) :
    ((View.whole main_v7).slice (win0_6.rect t)).emb y = ix3 (bt t) (rw_ t r) x := by
  blk_ext [idx t, bt, rw_]

theorem piece_eq (c : Dev nD) (t : Fin cfg0.N) (o : ℕ) (ho : o + 256 ≤ 3072) (y : ((cfg0.win 6).xblock (cfg0.grid.coords t)).Idx) (y' : S1x1024x256.Idx)
    (h1 : (y 1).val = (y' 1).val) (h2 : (y 2).val = o + (y' 2).val) :
    ac (cv (HX m c t) (ldW m c t o) (ldC m c t o) (ldB m c t o)) y'
      = out (aH m c) (aW m c) (aC m c) (aB m c) (((View.whole main_v7).slice (win0_6.rect t)).emb y) := by
  obtain ⟨z, r, x, rfl⟩ : ∃ (z : Fin 1) (r : Fin 1024) (x : Fin 256), y' = ix3 z r x := ⟨y' 0, y' 1, y' 2, eq_ix3 y'⟩
  obtain rfl : z = 0 := Subsingleton.elim _ _
  have h2' : (y 2).val = o + x.val := h2
  rw [emb_out t y r ⟨o + x.val, by omega⟩ h1 h2']
  exact chunk_eq m c t o ho r x ⟨o + x.val, by omega⟩ rfl

set_option maxHeartbeats 2000000 in
theorem final (c : Dev nD) : (dats m 0 c).arrAt 6 (cfgs 0).N = out (aH m c) (aW m c) (aC m c) (aB m c) := by
  refine (dats m 0 c).arrAt_eq_of_covers 6 _ (by decide +kernel) fun t hf y => ?_
  blk_simp; rw [after0_6]
  unfold outsAt0; frame_out
  simp only [hext m c t]
  simp only [ldW_eq, ldC_eq, ldB_eq, Nat.reduceAdd, Nat.reduceLeDiff]
  canon_tiles y h
  case piece0 y' => exact (show _ = ac (cv (HX m c t) (ldW m c t 2816) (ldC m c t 2816) (ldB m c t 2816)) y from rfl).trans (piece_eq m c t 2816 (by decide) y' y h1 h2)
  case piece1 y' => exact (show _ = ac (cv (HX m c t) (ldW m c t 2560) (ldC m c t 2560) (ldB m c t 2560)) y from rfl).trans (piece_eq m c t 2560 (by decide) y' y h1 h2)
  case piece2 y' => exact (show _ = ac (cv (HX m c t) (ldW m c t 2304) (ldC m c t 2304) (ldB m c t 2304)) y from rfl).trans (piece_eq m c t 2304 (by decide) y' y h1 h2)
  case piece3 y' => exact (show _ = ac (cv (HX m c t) (ldW m c t 2048) (ldC m c t 2048) (ldB m c t 2048)) y from rfl).trans (piece_eq m c t 2048 (by decide) y' y h1 h2)
  case piece4 y' => exact (show _ = ac (cv (HX m c t) (ldW m c t 1792) (ldC m c t 1792) (ldB m c t 1792)) y from rfl).trans (piece_eq m c t 1792 (by decide) y' y h1 h2)
  case piece5 y' => exact (show _ = ac (cv (HX m c t) (ldW m c t 1536) (ldC m c t 1536) (ldB m c t 1536)) y from rfl).trans (piece_eq m c t 1536 (by decide) y' y h1 h2)
  case piece6 y' => exact (show _ = ac (cv (HX m c t) (ldW m c t 1280) (ldC m c t 1280) (ldB m c t 1280)) y from rfl).trans (piece_eq m c t 1280 (by decide) y' y h1 h2)
  case piece7 y' => exact (show _ = ac (cv (HX m c t) (ldW m c t 1024) (ldC m c t 1024) (ldB m c t 1024)) y from rfl).trans (piece_eq m c t 1024 (by decide) y' y h1 h2)
  case piece8 y' => exact (show _ = ac (cv (HX m c t) (ldW m c t 768) (ldC m c t 768) (ldB m c t 768)) y from rfl).trans (piece_eq m c t 768 (by decide) y' y h1 h2)
  case piece9 y' => exact (show _ = ac (cv (HX m c t) (ldW m c t 512) (ldC m c t 512) (ldB m c t 512)) y from rfl).trans (piece_eq m c t 512 (by decide) y' y h1 h2)
  case piece10 y' => exact (show _ = ac (cv (HX m c t) (ldW m c t 256) (ldC m c t 256) (ldB m c t 256)) y from rfl).trans (piece_eq m c t 256 (by decide) y' y h1 h2)
  case piece11 y' => exact (show _ = ac (cv (HX m c t) (ldW m c t 0) (ldC m c t 0) (ldB m c t 0)) y from rfl).trans (piece_eq m c t 0 (by decide) y' y h1 (h2.trans (Nat.zero_add _).symm))

end Cert.XbcIdeal.Val

end
-- ==== Proof.XbcClaim.lean ====
module

public import proofs.«01_k».proof.Defs
public import proofs.«01_k».proof.Proof.XbcValue

/-!
The kernel of the x, B and C projection and its reference end with one result.
-/

@[expose] public section

noncomputable section

namespace Cert.Proof.Xbc

open Idealize.ShloMosaic Idealize.SL.Sem

theorem algebraic : Cert.algebraic_XbcIdeal_XbcReferenceIdeal (hXbcIdeal := Cert.XbcIdeal.Gen.facts)
    (hXbcReferenceIdeal := Cert.XbcReferenceIdeal.Gen.facts) := by
  pair_intro
  · run_from Cert.XbcIdeal.Value.run_blocks m g
  · run_from Cert.XbcReferenceIdeal.Value.run m' g'
    obtain ⟨a0, a1, a2, a3⟩ := hagree c
    refine Eq.trans ?_ (Cert.XbcIdeal.Val.final m c).symm
    rw [Cert.XbcReferenceIdeal.Val.final]
    rw [a0, a1, a2, a3]

end Cert.Proof.Xbc

end
-- ==== Proof.RefQkv.lean ====
module

public import proofs.«01_k».proof.Proof.Gen.QkvReferenceIdeal.Run
public import Idealize.ShloMosaic.Lib.Pipeline.ValueKit

/-!
The reference of the projection of q, k and v with its rotary positions, read entry by entry.
-/

@[expose] public section

set_option maxRecDepth 16384

noncomputable section

open Idealize.ShloMosaic Idealize.ShloMosaic.TcCoe Idealize.SL.Sem
open scoped BigOperators

namespace Cert.QkvReferenceIdeal.Val

open Cert.QkvReferenceIdeal Cert.QkvReferenceIdeal.Gen Idealize.ShloMosaic.StableHlo

abbrev X3 := FVec Ideal S2x8192x1024 .f32
abbrev WI := FVec Ideal S1x1024x8768 .f32
abbrev TB := FVec Ideal S8192x16 .f32

/-! ## The angles -/

def inv : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

def rowP : FVec Ideal S8192 .f32 :=
  sitofp .f32 (shapeCast _ (broadcastInDim S128x64 ![0, 1] bcast_S128x1_S128x64_0_1 (broadcastInDim S128x1 ![0] bcast_S128_S128x1_0 (iotaInDim S128 32 0))) shapeCasts_S128x64_S8192)

def colP : FVec Ideal S8192 .f32 :=
  sitofp .f32 (shapeCast _ (broadcastInDim S128x64 ![0, 1] bcast_S1x64_S128x64_0_1 (broadcastInDim S1x64 ![1] bcast_S64_S1x64_1 (iotaInDim S64 32 0))) shapeCasts_S128x64_S8192)

def ang (p : FVec Ideal S8192 .f32) : TB :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 inv))

def cR : TB := Host.cos (ang rowP)
def sR : TB := Host.sin (ang rowP)
def cC : TB := Host.cos (ang colP)
def sC : TB := Host.sin (ang colP)

/-! ## The reference in stages -/

def proj (h : X3) (w : WI) : FVec Ideal S2x8192x8768 .f32 :=
  Host.dotGeneral dot_S2x8192x1024_S1024x8768_S2x8192x8768_2_0_01_1_n_n none h (shapeCast _ w shapeCasts_S1x1024x8768_S1024x8768)

/-- The sum that one projected entry is. -/
def lin (h : X3) (w : WI) (b : Fin 2) (l : Fin 8192) (x : Fin 8768) : EReal := ∑ k : Fin 1024, h (ix3 b l k) * w (ix3 0 k x)

theorem proj_apply (h w) (b : Fin 2) (l : Fin 8192) (x : Fin 8768) : proj h w (ix3 b l x) = lin h w b l x := by
  unfold lin
  pointwise [proj]

/-- The cosine that lane `d` of a head takes. -/
def Cs (l : Fin 8192) (d : Fin 64) : EReal :=
  if h : d.val < 16 then cR (ix2 l ⟨d.val, h⟩) else if h' : d.val < 32 then cR (ix2 l ⟨d.val - 16, by omega⟩)
  else if h'' : d.val < 48 then cC (ix2 l ⟨d.val - 32, by omega⟩) else cC (ix2 l ⟨d.val - 48, by omega⟩)

/-- The sine that lane `d` of a head takes, with its sign. -/
def Sn (l : Fin 8192) (d : Fin 64) : EReal :=
  if h : d.val < 16 then -sR (ix2 l ⟨d.val, h⟩) else if h' : d.val < 32 then sR (ix2 l ⟨d.val - 16, by omega⟩)
  else if h'' : d.val < 48 then -sC (ix2 l ⟨d.val - 32, by omega⟩) else sC (ix2 l ⟨d.val - 48, by omega⟩)

/-- The lane that lane `d` of a head is turned with. -/
def pd (d : Fin 64) : Fin 64 := ⟨if d.val % 32 < 16 then d.val + 16 else d.val - 16, by split <;> omega⟩

def tQ (h : X3) (w : WI) : FVec Ideal S2x8192x16x64 .f32 :=
  shapeCast _ (extractStridedSlice S2x8192x1024 ![0, 0, 5184] (proj h w) slices_S2x8192x8768_S2x8192x1024_0_0_5184) shapeCasts_S2x8192x1024_S2x8192x16x64

def bcQ (c : TB) : FVec Ideal S2x8192x16x16 .f32 :=
  broadcastInDim S2x8192x16x16 ![0, 1, 2, 3] bcast_S1x8192x1x16_S2x8192x16x16_0_1_2_3 (broadcastInDim S1x8192x1x16 ![1, 3] bcast_S8192x16_S1x8192x1x16_1_3 c)

def rotQ (u : FVec Ideal S2x8192x16x32 .f32) (c s : TB) : FVec Ideal S2x8192x16x32 .f32 :=
  concatenate S2x8192x16x32 3
    [⟨S2x8192x16x16, subf (mulf (extractStridedSlice S2x8192x16x16 ![0, 0, 0, 0] u slices_S2x8192x16x32_S2x8192x16x16_0_0_0_0) (bcQ c))
        (mulf (extractStridedSlice S2x8192x16x16 ![0, 0, 0, 16] u slices_S2x8192x16x32_S2x8192x16x16_0_0_0_16) (bcQ s))⟩,
     ⟨S2x8192x16x16, addf (mulf (extractStridedSlice S2x8192x16x16 ![0, 0, 0, 16] u slices_S2x8192x16x32_S2x8192x16x16_0_0_0_16) (bcQ c))
        (mulf (extractStridedSlice S2x8192x16x16 ![0, 0, 0, 0] u slices_S2x8192x16x32_S2x8192x16x16_0_0_0_0) (bcQ s))⟩]
    concatenates_S2x8192x16x16_S2x8192x16x16_S2x8192x16x32_d3

def ropeQ (t : FVec Ideal S2x8192x16x64 .f32) : FVec Ideal S2x8192x16x64 .f32 :=
  concatenate S2x8192x16x64 3
    [⟨S2x8192x16x32, rotQ (extractStridedSlice S2x8192x16x32 ![0, 0, 0, 0] t slices_S2x8192x16x64_S2x8192x16x32_0_0_0_0) cR sR⟩,
     ⟨S2x8192x16x32, rotQ (extractStridedSlice S2x8192x16x32 ![0, 0, 0, 32] t slices_S2x8192x16x64_S2x8192x16x32_0_0_0_32) cC sC⟩]
    concatenates_S2x8192x16x32_S2x8192x16x32_S2x8192x16x64_d3

def tK (h : X3) (w : WI) : FVec Ideal S2x8192x4x64 .f32 :=
  shapeCast _ (extractStridedSlice S2x8192x256 ![0, 0, 6208] (proj h w) slices_S2x8192x8768_S2x8192x256_0_0_6208) shapeCasts_S2x8192x256_S2x8192x4x64

def bcK (c : TB) : FVec Ideal S2x8192x4x16 .f32 :=
  broadcastInDim S2x8192x4x16 ![0, 1, 2, 3] bcast_S1x8192x1x16_S2x8192x4x16_0_1_2_3 (broadcastInDim S1x8192x1x16 ![1, 3] bcast_S8192x16_S1x8192x1x16_1_3 c)

def rotK (u : FVec Ideal S2x8192x4x32 .f32) (c s : TB) : FVec Ideal S2x8192x4x32 .f32 :=
  concatenate S2x8192x4x32 3
    [⟨S2x8192x4x16, subf (mulf (extractStridedSlice S2x8192x4x16 ![0, 0, 0, 0] u slices_S2x8192x4x32_S2x8192x4x16_0_0_0_0) (bcK c))
        (mulf (extractStridedSlice S2x8192x4x16 ![0, 0, 0, 16] u slices_S2x8192x4x32_S2x8192x4x16_0_0_0_16) (bcK s))⟩,
     ⟨S2x8192x4x16, addf (mulf (extractStridedSlice S2x8192x4x16 ![0, 0, 0, 16] u slices_S2x8192x4x32_S2x8192x4x16_0_0_0_16) (bcK c))
        (mulf (extractStridedSlice S2x8192x4x16 ![0, 0, 0, 0] u slices_S2x8192x4x32_S2x8192x4x16_0_0_0_0) (bcK s))⟩]
    concatenates_S2x8192x4x16_S2x8192x4x16_S2x8192x4x32_d3

def ropeK (t : FVec Ideal S2x8192x4x64 .f32) : FVec Ideal S2x8192x4x64 .f32 :=
  concatenate S2x8192x4x64 3
    [⟨S2x8192x4x32, rotK (extractStridedSlice S2x8192x4x32 ![0, 0, 0, 0] t slices_S2x8192x4x64_S2x8192x4x32_0_0_0_0) cR sR⟩,
     ⟨S2x8192x4x32, rotK (extractStridedSlice S2x8192x4x32 ![0, 0, 0, 32] t slices_S2x8192x4x64_S2x8192x4x32_0_0_0_32) cC sC⟩]
    concatenates_S2x8192x4x32_S2x8192x4x32_S2x8192x4x64_d3

theorem rotQ_lo (u : FVec Ideal S2x8192x16x32 .f32) (c s : TB) (b : Fin 2) (l : Fin 8192) (a : Fin 16) (d : Fin 32) (hd : d.val < 16) :
    rotQ u c s (ix4 b l a d) = u (ix4 b l a d) * c (ix2 l ⟨d.val, hd⟩) + u (ix4 b l a ⟨d.val + 16, by omega⟩) * -s (ix2 l ⟨d.val, hd⟩) := by
  pointwise [rotQ, bcQ]
  rw [dif_pos hd, mul_neg, ← sub_eq_add_neg]
  simp only [add_comm 16 d.val]

theorem rotQ_hi (u : FVec Ideal S2x8192x16x32 .f32) (c s : TB) (b : Fin 2) (l : Fin 8192) (a : Fin 16) (d : Fin 32) (hd : 16 ≤ d.val) :
    rotQ u c s (ix4 b l a d) = u (ix4 b l a d) * c (ix2 l ⟨d.val - 16, by omega⟩) + u (ix4 b l a ⟨d.val - 16, by omega⟩) * s (ix2 l ⟨d.val - 16, by omega⟩) := by
  pointwise [rotQ, bcQ]
  rw [dif_neg (by omega)]
  have e : (⟨16 + (d.val - 16), by omega⟩ : Fin 32) = d := Fin.ext (by simp only []; omega)
  rw [e]

theorem ropeQ_apply (t : FVec Ideal S2x8192x16x64 .f32) (b : Fin 2) (l : Fin 8192) (a : Fin 16) (d : Fin 64) :
    ropeQ t (ix4 b l a d) = t (ix4 b l a d) * Cs l d + t (ix4 b l a (pd d)) * Sn l d := by
  pointwise [ropeQ]
  by_cases h1 : d.val < 32
  · rw [dif_pos h1]
    by_cases h0 : d.val < 16
    · rw [rotQ_lo _ _ _ _ _ _ _ h0]
      pointwise
      simp only [Cs, Sn, pd, h0, Nat.mod_eq_of_lt h1, dif_pos, if_pos]
    · rw [rotQ_hi _ _ _ _ _ _ _ (by simp only []; omega)]
      pointwise
      simp only [Cs, Sn, pd, h0, h1, Nat.mod_eq_of_lt h1, dif_neg, dif_pos, if_neg, not_false_eq_true]
  · rw [dif_neg h1]
    by_cases h2 : d.val < 48
    · rw [rotQ_lo _ _ _ _ _ _ _ (show d.val - 32 < 16 by omega)]
      pointwise
      have e : (⟨32 + (d.val - 32), by omega⟩ : Fin 64) = d := Fin.ext (by simp only []; omega)
      have e' : (⟨32 + (d.val - 32 + 16), by omega⟩ : Fin 64) = pd d := Fin.ext (by simp only [pd]; rw [if_pos (by omega)]; omega)
      simp only [e, e']
      simp only [Cs, Sn, show ¬ d.val < 16 by omega, h1, h2, dif_neg, dif_pos, not_false_eq_true]
    · rw [rotQ_hi _ _ _ _ _ _ _ (show 16 ≤ d.val - 32 by omega)]
      pointwise
      have e : (⟨32 + (d.val - 32), by omega⟩ : Fin 64) = d := Fin.ext (by simp only []; omega)
      have e' : (⟨32 + (d.val - 32 - 16), by omega⟩ : Fin 64) = pd d := Fin.ext (by simp only [pd]; rw [if_neg (by omega)]; omega)
      have e'' : (⟨d.val - 32 - 16, by omega⟩ : Fin 16) = ⟨d.val - 48, by omega⟩ := Fin.ext (by simp only []; omega)
      simp only [e, e', e'']
      simp only [Cs, Sn, show ¬ d.val < 16 by omega, h1, h2, dif_neg, not_false_eq_true]

theorem tQ_apply (h w) (b : Fin 2) (l : Fin 8192) (a : Fin 16) (d : Fin 64) :
    tQ h w (ix4 b l a d) = lin h w b l ⟨5184 + (a.val * 64 + d.val), by omega⟩ := by
  pointwise [tQ]
  rw [proj_apply]

theorem rotK_lo (u : FVec Ideal S2x8192x4x32 .f32) (c s : TB) (b : Fin 2) (l : Fin 8192) (a : Fin 4) (d : Fin 32) (hd : d.val < 16) :
    rotK u c s (ix4 b l a d) = u (ix4 b l a d) * c (ix2 l ⟨d.val, hd⟩) + u (ix4 b l a ⟨d.val + 16, by omega⟩) * -s (ix2 l ⟨d.val, hd⟩) := by
  pointwise [rotK, bcK]
  rw [dif_pos hd, mul_neg, ← sub_eq_add_neg]
  simp only [add_comm 16 d.val]

theorem rotK_hi (u : FVec Ideal S2x8192x4x32 .f32) (c s : TB) (b : Fin 2) (l : Fin 8192) (a : Fin 4) (d : Fin 32) (hd : 16 ≤ d.val) :
    rotK u c s (ix4 b l a d) = u (ix4 b l a d) * c (ix2 l ⟨d.val - 16, by omega⟩) + u (ix4 b l a ⟨d.val - 16, by omega⟩) * s (ix2 l ⟨d.val - 16, by omega⟩) := by
  pointwise [rotK, bcK]
  rw [dif_neg (by omega)]
  have e : (⟨16 + (d.val - 16), by omega⟩ : Fin 32) = d := Fin.ext (by simp only []; omega)
  rw [e]

theorem ropeK_apply (t : FVec Ideal S2x8192x4x64 .f32) (b : Fin 2) (l : Fin 8192) (a : Fin 4) (d : Fin 64) :
    ropeK t (ix4 b l a d) = t (ix4 b l a d) * Cs l d + t (ix4 b l a (pd d)) * Sn l d := by
  pointwise [ropeK]
  by_cases h1 : d.val < 32
  · rw [dif_pos h1]
    by_cases h0 : d.val < 16
    · rw [rotK_lo _ _ _ _ _ _ _ h0]
      pointwise
      simp only [Cs, Sn, pd, h0, Nat.mod_eq_of_lt h1, dif_pos, if_pos]
    · rw [rotK_hi _ _ _ _ _ _ _ (by simp only []; omega)]
      pointwise
      simp only [Cs, Sn, pd, h0, h1, Nat.mod_eq_of_lt h1, dif_neg, dif_pos, if_neg, not_false_eq_true]
  · rw [dif_neg h1]
    by_cases h2 : d.val < 48
    · rw [rotK_lo _ _ _ _ _ _ _ (show d.val - 32 < 16 by omega)]
      pointwise
      have e : (⟨32 + (d.val - 32), by omega⟩ : Fin 64) = d := Fin.ext (by simp only []; omega)
      have e' : (⟨32 + (d.val - 32 + 16), by omega⟩ : Fin 64) = pd d := Fin.ext (by simp only [pd]; rw [if_pos (by omega)]; omega)
      simp only [e, e']
      simp only [Cs, Sn, show ¬ d.val < 16 by omega, h1, h2, dif_neg, dif_pos, not_false_eq_true]
    · rw [rotK_hi _ _ _ _ _ _ _ (show 16 ≤ d.val - 32 by omega)]
      pointwise
      have e : (⟨32 + (d.val - 32), by omega⟩ : Fin 64) = d := Fin.ext (by simp only []; omega)
      have e' : (⟨32 + (d.val - 32 - 16), by omega⟩ : Fin 64) = pd d := Fin.ext (by simp only [pd]; rw [if_neg (by omega)]; omega)
      have e'' : (⟨d.val - 32 - 16, by omega⟩ : Fin 16) = ⟨d.val - 48, by omega⟩ := Fin.ext (by simp only []; omega)
      simp only [e, e', e'']
      simp only [Cs, Sn, show ¬ d.val < 16 by omega, h1, h2, dif_neg, not_false_eq_true]

theorem tK_apply (h w) (b : Fin 2) (l : Fin 8192) (a : Fin 4) (d : Fin 64) :
    tK h w (ix4 b l a d) = lin h w b l ⟨6208 + (a.val * 64 + d.val), by omega⟩ := by
  pointwise [tK]
  rw [proj_apply]

/-- The constant that q is multiplied with. -/
def scl : EReal := Ideal.ofBits .f32 0x3E000000#32

/-- The column that column `x` of q and k is turned with. -/
def pcol (x : Fin 1280) : Fin 8768 := ⟨if x.val % 32 < 16 then 5184 + (x.val + 16) else 5184 + (x.val - 16), by split <;> omega⟩

def turn (h : X3) (w : WI) (b : Fin 2) (l : Fin 8192) (x : Fin 1280) : EReal :=
  lin h w b l ⟨5184 + x.val, by omega⟩ * Cs l ⟨x.val % 64, by omega⟩ + lin h w b l (pcol x) * Sn l ⟨x.val % 64, by omega⟩

def out (h : X3) (w : WI) : FVec Ideal S2x8192x1536 .bf16 := fun i =>
  if hq : (i 2).val < 1024 then turn h w (i 0) (i 1) ⟨(i 2).val, by omega⟩ * scl
  else if hk : (i 2).val < 1280 then turn h w (i 0) (i 1) ⟨(i 2).val, hk⟩
  else lin h w (i 0) (i 1) ⟨5184 + (i 2).val, by have : (i 2).val < 1536 := (i 2).isLt; omega⟩

def res (h : X3) (w : WI) : FVec Ideal S2x8192x1536 .bf16 :=
  truncf .bf16 (concatenate S2x8192x1536 2
    [⟨S2x8192x1024, shapeCast _ (mulf (ropeQ (tQ h w)) (broadcastInDim S2x8192x16x64 ![] bcast_S_S2x8192x16x64 (constant S_ .f32 0x3E000000#32))) shapeCasts_S2x8192x16x64_S2x8192x1024⟩,
     ⟨S2x8192x256, shapeCast _ (ropeK (tK h w)) shapeCasts_S2x8192x4x64_S2x8192x256⟩,
     ⟨S2x8192x256, extractStridedSlice S2x8192x256 ![0, 0, 6464] (proj h w) slices_S2x8192x8768_S2x8192x256_0_0_6464⟩]
    concatenates_S2x8192x1024_S2x8192x256_S2x8192x256_S2x8192x1536_d2) bitsLt_bf16_f32

theorem turn_of (h w) (b : Fin 2) (l : Fin 8192) (x : Fin 1280) (c p : Fin 8768) (d : Fin 64) (hc : c.val = 5184 + x.val)
    (hp : p.val = (pcol x).val) (hd : d.val = x.val % 64) :
    lin h w b l c * Cs l d + lin h w b l p * Sn l d = turn h w b l x := by
  have e1 : p = pcol x := Fin.ext hp
  have e2 : d = ⟨x.val % 64, by omega⟩ := Fin.ext hd
  have e3 : c = ⟨5184 + x.val, by omega⟩ := Fin.ext hc
  exact congrArg₂ (fun u v : EReal => u + v) (congrArg₂ (fun u v : EReal => u * v) (congrArg (lin h w b l) e3) (congrArg (Cs l) e2))
    (congrArg₂ (fun u v : EReal => u * v) (congrArg (lin h w b l) e1) (congrArg (Sn l) e2))

theorem out_q (h w) (b : Fin 2) (l : Fin 8192) (x : Fin 1536) (hq : x.val < 1024) :
    out h w (ix3 b l x) = turn h w b l ⟨x.val, by omega⟩ * scl := dif_pos hq

theorem out_k (h w) (b : Fin 2) (l : Fin 8192) (x : Fin 1536) (hq : ¬ x.val < 1024) (hk : x.val < 1280) :
    out h w (ix3 b l x) = turn h w b l ⟨x.val, hk⟩ := (dif_neg hq).trans (dif_pos hk)

theorem out_v (h w) (b : Fin 2) (l : Fin 8192) (x : Fin 1536) (hq : ¬ x.val < 1024) (hk : ¬ x.val < 1280) :
    out h w (ix3 b l x) = lin h w b l ⟨5184 + x.val, by omega⟩ := (dif_neg hq).trans (dif_neg hk)

theorem res_apply (h w) (b : Fin 2) (l : Fin 8192) (x : Fin 1536) : res h w (ix3 b l x) = out h w (ix3 b l x) := by
  pointwise [res]
  by_cases hq : x.val < 1024
  · rw [dif_pos hq, ropeQ_apply, tQ_apply, tQ_apply, out_q h w b l x hq]
    exact congrArg (fun a : EReal => a * scl) (turn_of h w b l ⟨x.val, by omega⟩ _ _ _
      (show 5184 + (x.val / 64 * 64 + x.val % 64) = 5184 + x.val by omega)
      (show 5184 + (x.val / 64 * 64 + if x.val % 64 % 32 < 16 then x.val % 64 + 16 else x.val % 64 - 16)
        = if x.val % 32 < 16 then 5184 + (x.val + 16) else 5184 + (x.val - 16) by split <;> split <;> omega) rfl)
  · rw [dif_neg hq]
    by_cases hk : x.val < 1280
    · rw [dif_pos (by omega), ropeK_apply, tK_apply, tK_apply, out_k h w b l x hq hk]
      exact turn_of h w b l ⟨x.val, hk⟩ _ _ _
        (show 6208 + ((x.val - 1024) / 64 * 64 + (x.val - 1024) % 64) = 5184 + x.val by omega)
        (show 6208 + ((x.val - 1024) / 64 * 64 + if (x.val - 1024) % 64 % 32 < 16 then (x.val - 1024) % 64 + 16 else (x.val - 1024) % 64 - 16)
          = if x.val % 32 < 16 then 5184 + (x.val + 16) else 5184 + (x.val - 16) by split <;> split <;> omega)
        (show (x.val - 1024) % 64 = x.val % 64 by omega)
    · rw [dif_neg (by omega)]
      pointwise
      rw [proj_apply, out_v h w b l x hq hk]
      exact congrArg (lin h w b l) (Fin.ext (show 6464 + (x.val - 1280) = 5184 + x.val by omega))

theorem res_eq (m : (ℓ : Loc nD τ sig) → Buf (Elt Ideal) ℓ) (c : Dev nD) :
    Value.res_main_v138 m c = res (m ((c.tc : Thread nD τ).loc main_arg0)) (m ((c.tc : Thread nD τ).loc main_arg1)) := rfl

theorem final (m : (ℓ : Loc nD τ sig) → Buf (Elt Ideal) ℓ) (c : Dev nD) :
    Value.res_main_v138 m c = out (m ((c.tc : Thread nD τ).loc main_arg0)) (m ((c.tc : Thread nD τ).loc main_arg1)) := by
  rw [res_eq]
  funext i
  obtain ⟨b, l, x, rfl⟩ : ∃ (b : Fin 2) (l : Fin 8192) (x : Fin 1536), i = ix3 b l x := ⟨i 0, i 1, i 2, eq_ix3 i⟩
  exact res_apply _ _ b l x

end Cert.QkvReferenceIdeal.Val

end
-- ==== Proof.QkvBlk.lean ====
module

public import proofs.«01_k».proof.Proof.Gen.QkvIdeal.Value
public import proofs.«01_k».proof.Proof.RefQkv

/-!
The blocks that the kernel of the q, k and v projection reads, in terms of the arguments.
-/

@[expose] public section

set_option maxRecDepth 16384

noncomputable section

open Idealize.ShloMosaic Idealize.ShloMosaic.TcCoe Idealize.SL.Sem
open Idealize.ShloMosaic.Pipeline (Dat)
open scoped BigOperators

namespace Cert.QkvIdeal.Val

open Cert.QkvIdeal Cert.QkvIdeal.Gen
open Cert.QkvReferenceIdeal.Val (lin Cs Sn pd turn out scl cR sR cC sC)

variable (m : (ℓ : Loc nD τ sig) → Buf (Elt Ideal) ℓ)

theorem idx : ∀ t : Fin cfg0.N, win0_0.index t = ![t.val / 8, t.val % 8, 0]
    ∧ win0_1.index t = ![0, 0]
    ∧ win0_2.index t = ![t.val % 8, 0]
    ∧ win0_3.index t = ![t.val % 8, 0]
    ∧ win0_4.index t = ![t.val / 8, t.val % 8, 0] :=
  (by decide +kernel : ∀ t : Fin grid0.N, _)

def bt (t : Fin cfg0.N) : Fin 2 := ⟨t.val / 8, by have := t.isLt; change _ < 16 at this; omega⟩
def rw_ (t : Fin cfg0.N) (r : Fin 1024) : Fin 8192 := ⟨t.val % 8 * 1024 + r.val, by omega⟩

abbrev aH (c : Dev nD) := m ((c : Thread nD τ).loc main_arg0)
abbrev aW (c : Dev nD) := m ((c : Thread nD τ).loc main_arg1)

theorem blk_h (c : Dev nD) (t : Fin cfg0.N) (r : Fin 1024) (k : Fin 1024) :
    iblk m c 0 t (ix3 0 r k) = aH m c (ix3 (bt t) (rw_ t r) k) := by
  blk_simp [iblk]
  entry_read
  pointwise
  blk_ext [idx t, bt, rw_]

theorem blk_w (c : Dev nD) (t : Fin cfg0.N) (k : Fin 1024) (x : Fin 1536) :
    iblk m c 1 t (ix2 k x) = aW m c (ix3 0 k ⟨5184 + x.val, by omega⟩) := by
  blk_simp [iblk]
  entry_read
  pointwise
  blk_ext [idx t]

/-- A table of the rotation, its 64 lanes given in four parts, twice. -/
def tab (a b c d : FVec Ideal S8192x16 .f32) : FVec Ideal S8192x128 .f32 :=
  shapeCast _ (broadcastInDim S1x8192x2x64 ![0, 1, 2, 3] bcast_S1x8192x1x64_S1x8192x2x64_0_1_2_3
    (shapeCast S1x8192x1x64 (concatenate S8192x64 1 [⟨S8192x16, a⟩, ⟨S8192x16, b⟩, ⟨S8192x16, c⟩, ⟨S8192x16, d⟩]
      concatenates_S8192x16_S8192x16_S8192x16_S8192x16_S8192x64_d1) shapeCasts_S8192x64_S1x8192x1x64)) shapeCasts_S1x8192x2x64_S8192x128

set_option maxHeartbeats 1000000 in
theorem v45 (c : Dev nD) : V m c main_v45 = tab cR cR cC cC := by
  rfl

set_option maxHeartbeats 1000000 in
theorem v48 (c : Dev nD) : V m c main_v48 = tab (Host.negf sR) sR (Host.negf sC) sC := by
  rfl

theorem tab_apply (a b c d : FVec Ideal S8192x16 .f32) (l : Fin 8192) (x : Fin 128) : tab a b c d (ix2 l x) =
    if h : x.val % 64 < 16 then a (ix2 l ⟨x.val % 64, h⟩) else if h' : x.val % 64 < 32 then b (ix2 l ⟨x.val % 64 - 16, by omega⟩)
    else if h'' : x.val % 64 < 48 then c (ix2 l ⟨x.val % 64 - 32, by omega⟩) else d (ix2 l ⟨x.val % 64 - 48, by omega⟩) := by
  pointwise [tab]
  by_cases h1 : x.val % 64 < 16
  · rw [dif_pos h1, dif_pos h1]
  · rw [dif_neg h1, dif_neg h1]
    by_cases h2 : x.val % 64 < 32
    · refine (dif_pos (show x.val % 64 - 16 < 16 by omega)).trans ?_
      rw [dif_pos h2]
    · refine (dif_neg (show ¬ x.val % 64 - 16 < 16 by omega)).trans (Eq.trans ?_ (dif_neg h2).symm)
      by_cases h3 : x.val % 64 < 48
      · refine (dif_pos (show x.val % 64 - 16 - 16 < 16 by omega)).trans ?_
        rw [dif_pos h3]
        exact congrArg (fun u => c (ix2 l u)) (Fin.ext (show x.val % 64 - 16 - 16 = x.val % 64 - 32 by omega))
      · refine (dif_neg (show ¬ x.val % 64 - 16 - 16 < 16 by omega)).trans ?_
        rw [dif_neg h3]
        exact congrArg (fun u => d (ix2 l u)) (Fin.ext (show x.val % 64 - 16 - 16 - 16 = x.val % 64 - 48 by omega))

theorem blk_c (c : Dev nD) (t : Fin cfg0.N) (r : Fin 1024) (x : Fin 128) :
    iblk m c 2 t (ix2 r x) = Cs (rw_ t r) ⟨x.val % 64, by omega⟩ := by
  have e : iblk m c 2 t (ix2 r x) = V m c main_v45 (ix2 (rw_ t r) x) := by
    blk_simp [iblk]
    blk_ext [idx t, rw_]
  rw [e, v45, tab_apply]
  rfl

theorem blk_s (c : Dev nD) (t : Fin cfg0.N) (r : Fin 1024) (x : Fin 128) :
    iblk m c 3 t (ix2 r x) = Sn (rw_ t r) ⟨x.val % 64, by omega⟩ := by
  have e : iblk m c 3 t (ix2 r x) = V m c main_v48 (ix2 (rw_ t r) x) := by
    blk_simp [iblk]
    blk_ext [idx t, rw_]
  rw [e, v48, tab_apply]
  rfl

end Cert.QkvIdeal.Val

end
-- ==== Proof.QkvValue.lean ====
module

public import proofs.«01_k».proof.Proof.QkvBlk

/-!
The array that the kernel of the q, k and v projection leaves.
-/

@[expose] public section

set_option maxRecDepth 16384

noncomputable section

open Idealize.ShloMosaic Idealize.ShloMosaic.TcCoe Idealize.SL.Sem
open Idealize.ShloMosaic.Pipeline (Dat)
open scoped BigOperators

namespace Cert.QkvIdeal.Val

open Cert.QkvIdeal Cert.QkvIdeal.Gen
open Cert.QkvReferenceIdeal.Val (lin Cs Sn turn turn_of out out_q out_k out_v scl)

/-- The lane that lane `x` of a tile is turned with. -/
def px (x : Fin 128) : Fin 128 := ⟨if x.val % 32 < 16 then x.val + 16 else x.val - 16, by split <;> omega⟩

/-- A tile of columns, turned. -/
def rp (t c s : FVec Ideal S1024x128 .f32) : FVec Ideal S1x1024x128 .bf16 := k0_pay13 c s t k0_pay12

theorem mask (r : Fin 1024) (x : Fin 128) : k0_pay12 (ix2 r x) = if x.val % 32 < 16 then 1#1 else 0#1 := by
  pointwise [k0_pay12]
  revert x
  decide +kernel

theorem rp_apply (t c s : FVec Ideal S1024x128 .f32) (r : Fin 1024) (x : Fin 128) :
    rp t c s (ix3 0 r x) = t (ix2 r x) * c (ix2 r x) + t (ix2 r (px x)) * s (ix2 r x) := by
  pointwise [rp, k0_pay13]
  rw [mask]
  by_cases h : x.val % 32 < 16
  · rw [if_pos h]
    have e : (⟨(x.val + 128 - 112) % 128, by omega⟩ : Fin 128) = px x := Fin.ext (by simp only [px]; rw [if_pos h]; omega)
    rw [e]
    rfl
  · rw [if_neg h]
    have e : (⟨(x.val + 128 - 16) % 128, by omega⟩ : Fin 128) = px x := Fin.ext (by simp only [px]; rw [if_neg h]; omega)
    rw [e]
    rfl

/-! ## The columns that a tile holds -/

variable (m : (ℓ : Loc nD τ sig) → Buf (Elt Ideal) ℓ)

def sl0 (v : FVec Ideal S1024x256 .f32) : FVec Ideal S1024x128 .f32 := extractStridedSlice S1024x128 ![0, 0] v slices_S1024x256_o0_0_S1024x128
def sl1 (v : FVec Ideal S1024x256 .f32) : FVec Ideal S1024x128 .f32 := extractStridedSlice S1024x128 ![0, 128] v slices_S1024x256_o0_128_S1024x128

/-- The tile `A` holds the projected columns from `o` on. -/
def IsTile (c : Dev nD) (t : Fin cfg0.N) (A : FVec Ideal S1024x128 .f32) (o : ℕ) : Prop :=
  ∀ (r : Fin 1024) (j : Fin 128) (x : Fin 8768), x.val = 5184 + (o + j.val) → A (ix2 r j) = lin (aH m c) (aW m c) (bt t) (rw_ t r) x

def mm (c : Dev nD) (t : Fin cfg0.N) (W : Vec Ideal S1024x256 .bf16) : FVec Ideal S1024x256 .f32 :=
  k0_pay9 (View.ld (iblk m c 0 t : Vec Ideal S1x1024x1024 .bf16) r0_1) W

theorem z2 : (![0, 0] : Fin 2 → ℕ) = fun _ => 0 := funext fun a => by fin_cases a <;> rfl

theorem z3 : (![0, 0, 0] : Fin 3 → ℕ) = fun _ => 0 := funext fun a => by fin_cases a <;> rfl

theorem ldX (c : Dev nD) (t : Fin cfg0.N) : View.ld (iblk m c 0 t : Vec Ideal S1x1024x1024 .bf16) r0_1 = iblk m c 0 t :=
  View.ld_unit_zero z3 _ _

theorem ldC (c : Dev nD) (t : Fin cfg0.N) : View.ld (iblk m c 2 t : Vec Ideal S1024x128 .f32) r0_0 = iblk m c 2 t :=
  View.ld_unit_zero z2 _ _

theorem ldS (c : Dev nD) (t : Fin cfg0.N) : View.ld (iblk m c 3 t : Vec Ideal S1024x128 .f32) r0_0 = iblk m c 3 t :=
  View.ld_unit_zero z2 _ _

theorem mm_apply (c : Dev nD) (t : Fin cfg0.N) (o : ℕ) (ho : o + 256 ≤ 1536) (inb : ∀ a, (![0, o] : Fin 2 → ℕ) a + (![1024, 256] : Fin 2 → ℕ) a ≤ S1024x1536.size a)
    (r : Fin 1024) (j : Fin 256) :
    mm m c t (View.ld (iblk m c 1 t : Vec Ideal S1024x1536 .bf16) (Rect.unit ![0, o] ![1024, 256] inb)) (ix2 r j)
      = lin (aH m c) (aW m c) (bt t) (rw_ t r) ⟨5184 + (o + j.val), by omega⟩ := by
  unfold mm
  rw [ldX]
  pointwise [k0_pay9, k0_pay8]
  unfold lin
  refine Finset.sum_congr rfl fun k _ => ?_
  rw [blk_h]
  exact congrArg (fun u : EReal => @HMul.hMul EReal EReal EReal _ (aH m c (ix3 (bt t) (rw_ t r) k)) u) (blk_w m c t k ⟨o + j.val, by omega⟩)

theorem tile0 (c : Dev nD) (t : Fin cfg0.N) (o : ℕ) (ho : o + 256 ≤ 1536) (inb : ∀ a, (![0, o] : Fin 2 → ℕ) a + (![1024, 256] : Fin 2 → ℕ) a ≤ S1024x1536.size a) :
    IsTile m c t (sl0 (mm m c t (View.ld (iblk m c 1 t : Vec Ideal S1024x1536 .bf16) (Rect.unit ![0, o] ![1024, 256] inb)))) o := by
  intro r j x hx
  pointwise [sl0]
  rw [mm_apply m c t o ho]
  exact congrArg _ (Fin.ext hx.symm)

theorem tile1 (c : Dev nD) (t : Fin cfg0.N) (o : ℕ) (ho : o + 256 ≤ 1536) (inb : ∀ a, (![0, o] : Fin 2 → ℕ) a + (![1024, 256] : Fin 2 → ℕ) a ≤ S1024x1536.size a) :
    IsTile m c t (sl1 (mm m c t (View.ld (iblk m c 1 t : Vec Ideal S1024x1536 .bf16) (Rect.unit ![0, o] ![1024, 256] inb)))) (o + 128) := by
  intro r j x hx
  pointwise [sl1]
  rw [mm_apply m c t o ho]
  exact congrArg _ (Fin.ext (by rw [hx]; simp only []; omega))

/-! ## The tables -/

theorem cosK (c : Dev nD) (t : Fin cfg0.N) (r : Fin 1024) (x : Fin 128) :
    k0_pay4 (View.ld (iblk m c 2 t : Vec Ideal S1024x128 .f32) r0_0) (ix2 r x) = Cs (rw_ t r) ⟨x.val % 64, by omega⟩ := by
  rw [ldC]
  pointwise [k0_pay4]
  exact blk_c m c t r x

theorem sinK (c : Dev nD) (t : Fin cfg0.N) (r : Fin 1024) (x : Fin 128) :
    k0_pay5 (View.ld (iblk m c 3 t : Vec Ideal S1024x128 .f32) r0_0) (ix2 r x) = Sn (rw_ t r) ⟨x.val % 64, by omega⟩ := by
  rw [ldS]
  pointwise [k0_pay5]
  exact blk_s m c t r x

theorem cosQ (c : Dev nD) (t : Fin cfg0.N) (r : Fin 1024) (x : Fin 128) :
    k0_pay6 (View.ld (iblk m c 2 t : Vec Ideal S1024x128 .f32) r0_0) (ix2 r x) = Cs (rw_ t r) ⟨x.val % 64, by omega⟩ * scl := by
  rw [← cosK m c t r x]
  rfl

theorem sinQ (c : Dev nD) (t : Fin cfg0.N) (r : Fin 1024) (x : Fin 128) :
    k0_pay7 (View.ld (iblk m c 3 t : Vec Ideal S1024x128 .f32) r0_0) (ix2 r x) = Sn (rw_ t r) ⟨x.val % 64, by omega⟩ * scl := by
  rw [← sinK m c t r x]
  rfl

theorem scl_eq : scl = ((1/8 : ℝ) : EReal) := by
  have e : Ideal.ofBits FTy.f32 1040187392#32 = ((8388608 : ℝ) : EReal) * ((1 / 67108864 : ℝ) : EReal) := by
    simp [Ideal.ofBits, Ideal.ieee]
    norm_num
  unfold scl
  rw [e, ← EReal.coe_mul]
  norm_num

theorem scale (a b c d : EReal) : a * (b * scl) + c * (d * scl) = (a * b + c * d) * scl := by
  have h0 : (0 : EReal) ≤ scl := by rw [scl_eq]; exact_mod_cast (by norm_num : (0 : ℝ) ≤ 1/8)
  have h1 : scl ≠ ⊤ := by rw [scl_eq]; exact EReal.coe_ne_top _
  rw [mul_comm (a * b + c * d), EReal.left_distrib_of_nonneg_of_ne_top h0 h1, mul_comm scl, mul_comm scl, mul_assoc, mul_assoc]

/-! ## The pieces of the block -/

theorem emb_out (t : Fin cfg0.N) (y : ((cfg0.win 4).xblock (cfg0.grid.coords t)).Idx) (r : Fin 1024) (x : Fin 1536)
    (hr : (y 1).val = r.val) (hx : (y 2).val = x.val) :
    ((View.whole main_v52).slice (win0_4.rect t)).emb y = ix3 (bt t) (rw_ t r) x := by
  blk_ext [idx t, bt, rw_]

theorem turn_tile (c : Dev nD) (t : Fin cfg0.N) (A : FVec Ideal S1024x128 .f32) (o : ℕ) (hA : IsTile m c t A o) (ho : o % 128 = 0) (hq : o + 128 ≤ 1280)
    (r : Fin 1024) (x : Fin 128) :
    A (ix2 r x) * Cs (rw_ t r) ⟨x.val % 64, by omega⟩ + A (ix2 r (px x)) * Sn (rw_ t r) ⟨x.val % 64, by omega⟩
      = turn (aH m c) (aW m c) (bt t) (rw_ t r) ⟨o + x.val, by omega⟩ := by
  have hp := (px x).isLt
  rw [hA r x ⟨5184 + (o + x.val), by omega⟩ rfl, hA r (px x) ⟨5184 + (o + (px x).val), by omega⟩ rfl]
  exact turn_of _ _ _ _ _ _ _ _ rfl
    (show 5184 + (o + if x.val % 32 < 16 then x.val + 16 else x.val - 16)
      = if (o + x.val) % 32 < 16 then 5184 + ((o + x.val) + 16) else 5184 + ((o + x.val) - 16) by split <;> split <;> omega)
    (show x.val % 64 = (o + x.val) % 64 by omega)

theorem q_piece (c : Dev nD) (t : Fin cfg0.N) (A : FVec Ideal S1024x128 .f32) (o : ℕ) (hA : IsTile m c t A o) (ho : o % 128 = 0) (hq : o + 128 ≤ 1024)
    (y : ((cfg0.win 4).xblock (cfg0.grid.coords t)).Idx) (y' : S1x1024x128.Idx) (h1 : (y 1).val = (y' 1).val) (h2 : (y 2).val = o + (y' 2).val) :
    rp A (k0_pay6 (View.ld (iblk m c 2 t : Vec Ideal S1024x128 .f32) r0_0)) (k0_pay7 (View.ld (iblk m c 3 t : Vec Ideal S1024x128 .f32) r0_0)) y'
      = out (aH m c) (aW m c) (((View.whole main_v52).slice (win0_4.rect t)).emb y) := by
  obtain ⟨z, r, x, rfl⟩ : ∃ (z : Fin 1) (r : Fin 1024) (x : Fin 128), y' = ix3 z r x := ⟨y' 0, y' 1, y' 2, eq_ix3 y'⟩
  obtain rfl : z = 0 := Subsingleton.elim _ _
  have h2' : (y 2).val = o + x.val := h2
  rw [emb_out t y r ⟨o + x.val, by omega⟩ h1 h2', rp_apply, cosQ, sinQ, scale, turn_tile m c t A o hA ho (by omega)]
  exact (out_q _ _ _ _ ⟨o + x.val, by omega⟩ (show o + x.val < 1024 by omega)).symm

theorem k_piece (c : Dev nD) (t : Fin cfg0.N) (A : FVec Ideal S1024x128 .f32) (o : ℕ) (hA : IsTile m c t A o) (ho : o % 128 = 0) (hq : 1024 ≤ o) (hk : o + 128 ≤ 1280)
    (y : ((cfg0.win 4).xblock (cfg0.grid.coords t)).Idx) (y' : S1x1024x128.Idx) (h1 : (y 1).val = (y' 1).val) (h2 : (y 2).val = o + (y' 2).val) :
    rp A (k0_pay4 (View.ld (iblk m c 2 t : Vec Ideal S1024x128 .f32) r0_0)) (k0_pay5 (View.ld (iblk m c 3 t : Vec Ideal S1024x128 .f32) r0_0)) y'
      = out (aH m c) (aW m c) (((View.whole main_v52).slice (win0_4.rect t)).emb y) := by
  obtain ⟨z, r, x, rfl⟩ : ∃ (z : Fin 1) (r : Fin 1024) (x : Fin 128), y' = ix3 z r x := ⟨y' 0, y' 1, y' 2, eq_ix3 y'⟩
  obtain rfl : z = 0 := Subsingleton.elim _ _
  have h2' : (y 2).val = o + x.val := h2
  rw [emb_out t y r ⟨o + x.val, by omega⟩ h1 h2', rp_apply, cosK, sinK, turn_tile m c t A o hA ho hk]
  exact (out_k _ _ _ _ ⟨o + x.val, by omega⟩ (show ¬ o + x.val < 1024 by omega) (show o + x.val < 1280 by omega)).symm

/-- A tile of columns as it is. -/
def vp (A : FVec Ideal S1024x128 .f32) : FVec Ideal S1x1024x128 .bf16 := shapeCast S1x1024x128 (truncf .bf16 A bitsLt_bf16_f32) shapeCasts_S1024x128_S1x1024x128

theorem v_piece (c : Dev nD) (t : Fin cfg0.N) (A : FVec Ideal S1024x128 .f32) (o : ℕ) (hA : IsTile m c t A o) (hq : 1280 ≤ o) (hk : o + 128 ≤ 1536)
    (y : ((cfg0.win 4).xblock (cfg0.grid.coords t)).Idx) (y' : S1x1024x128.Idx) (h1 : (y 1).val = (y' 1).val) (h2 : (y 2).val = o + (y' 2).val) :
    vp A y' = out (aH m c) (aW m c) (((View.whole main_v52).slice (win0_4.rect t)).emb y) := by
  obtain ⟨z, r, x, rfl⟩ : ∃ (z : Fin 1) (r : Fin 1024) (x : Fin 128), y' = ix3 z r x := ⟨y' 0, y' 1, y' 2, eq_ix3 y'⟩
  obtain rfl : z = 0 := Subsingleton.elim _ _
  have h2' : (y 2).val = o + x.val := h2
  rw [emb_out t y r ⟨o + x.val, by omega⟩ h1 h2', out_v _ _ _ _ ⟨o + x.val, by omega⟩ (show ¬ o + x.val < 1024 by omega) (show ¬ o + x.val < 1280 by omega)]
  refine Eq.trans ?_ (hA r x _ rfl)
  pointwise [vp]

set_option maxHeartbeats 2000000 in
theorem final (c : Dev nD) : (dats m 0 c).arrAt 4 (cfgs 0).N = out (aH m c) (aW m c) := by
  refine (dats m 0 c).arrAt_eq_of_covers 4 _ (by decide +kernel) fun t hf y => ?_
  blk_simp; rw [after0_4]
  canon_tiles y h
  case piece0 y' => exact (show _ = vp (sl1 (mm m c t (View.ld (iblk m c 1 t : Vec Ideal S1024x1536 .bf16) r0_15))) y from rfl).trans (v_piece m c t _ 1408 (tile1 m c t 1280 (by decide) _) (by decide) (by decide) y' y h1 h2)
  case piece1 y' => exact (show _ = vp (sl0 (mm m c t (View.ld (iblk m c 1 t : Vec Ideal S1024x1536 .bf16) r0_15))) y from rfl).trans (v_piece m c t _ 1280 (tile0 m c t 1280 (by decide) _) (by decide) (by decide) y' y h1 h2)
  case piece2 y' => exact (show _ = rp (sl1 (mm m c t (View.ld (iblk m c 1 t : Vec Ideal S1024x1536 .bf16) r0_12))) (k0_pay4 (View.ld (iblk m c 2 t : Vec Ideal S1024x128 .f32) r0_0)) (k0_pay5 (View.ld (iblk m c 3 t : Vec Ideal S1024x128 .f32) r0_0)) y from rfl).trans (k_piece m c t _ 1152 (tile1 m c t 1024 (by decide) _) (by decide) (by decide) (by decide) y' y h1 h2)
  case piece3 y' => exact (show _ = rp (sl0 (mm m c t (View.ld (iblk m c 1 t : Vec Ideal S1024x1536 .bf16) r0_12))) (k0_pay4 (View.ld (iblk m c 2 t : Vec Ideal S1024x128 .f32) r0_0)) (k0_pay5 (View.ld (iblk m c 3 t : Vec Ideal S1024x128 .f32) r0_0)) y from rfl).trans (k_piece m c t _ 1024 (tile0 m c t 1024 (by decide) _) (by decide) (by decide) (by decide) y' y h1 h2)
  case piece4 y' => exact (show _ = rp (sl1 (mm m c t (View.ld (iblk m c 1 t : Vec Ideal S1024x1536 .bf16) r0_9))) (k0_pay6 (View.ld (iblk m c 2 t : Vec Ideal S1024x128 .f32) r0_0)) (k0_pay7 (View.ld (iblk m c 3 t : Vec Ideal S1024x128 .f32) r0_0)) y from rfl).trans (q_piece m c t _ 896 (tile1 m c t 768 (by decide) _) (by decide) (by decide) y' y h1 h2)
  case piece5 y' => exact (show _ = rp (sl0 (mm m c t (View.ld (iblk m c 1 t : Vec Ideal S1024x1536 .bf16) r0_9))) (k0_pay6 (View.ld (iblk m c 2 t : Vec Ideal S1024x128 .f32) r0_0)) (k0_pay7 (View.ld (iblk m c 3 t : Vec Ideal S1024x128 .f32) r0_0)) y from rfl).trans (q_piece m c t _ 768 (tile0 m c t 768 (by decide) _) (by decide) (by decide) y' y h1 h2)
  case piece6 y' => exact (show _ = rp (sl1 (mm m c t (View.ld (iblk m c 1 t : Vec Ideal S1024x1536 .bf16) r0_6))) (k0_pay6 (View.ld (iblk m c 2 t : Vec Ideal S1024x128 .f32) r0_0)) (k0_pay7 (View.ld (iblk m c 3 t : Vec Ideal S1024x128 .f32) r0_0)) y from rfl).trans (q_piece m c t _ 640 (tile1 m c t 512 (by decide) _) (by decide) (by decide) y' y h1 h2)
  case piece7 y' => exact (show _ = rp (sl0 (mm m c t (View.ld (iblk m c 1 t : Vec Ideal S1024x1536 .bf16) r0_6))) (k0_pay6 (View.ld (iblk m c 2 t : Vec Ideal S1024x128 .f32) r0_0)) (k0_pay7 (View.ld (iblk m c 3 t : Vec Ideal S1024x128 .f32) r0_0)) y from rfl).trans (q_piece m c t _ 512 (tile0 m c t 512 (by decide) _) (by decide) (by decide) y' y h1 h2)
  case piece8 y' => exact (show _ = rp (sl1 (mm m c t (View.ld (iblk m c 1 t : Vec Ideal S1024x1536 .bf16) r0_3))) (k0_pay6 (View.ld (iblk m c 2 t : Vec Ideal S1024x128 .f32) r0_0)) (k0_pay7 (View.ld (iblk m c 3 t : Vec Ideal S1024x128 .f32) r0_0)) y from rfl).trans (q_piece m c t _ 384 (tile1 m c t 256 (by decide) _) (by decide) (by decide) y' y h1 h2)
  case piece9 y' => exact (show _ = rp (sl0 (mm m c t (View.ld (iblk m c 1 t : Vec Ideal S1024x1536 .bf16) r0_3))) (k0_pay6 (View.ld (iblk m c 2 t : Vec Ideal S1024x128 .f32) r0_0)) (k0_pay7 (View.ld (iblk m c 3 t : Vec Ideal S1024x128 .f32) r0_0)) y from rfl).trans (q_piece m c t _ 256 (tile0 m c t 256 (by decide) _) (by decide) (by decide) y' y h1 h2)
  case piece10 y' => exact (show _ = rp (sl1 (mm m c t (View.ld (iblk m c 1 t : Vec Ideal S1024x1536 .bf16) r0_2))) (k0_pay6 (View.ld (iblk m c 2 t : Vec Ideal S1024x128 .f32) r0_0)) (k0_pay7 (View.ld (iblk m c 3 t : Vec Ideal S1024x128 .f32) r0_0)) y from rfl).trans (q_piece m c t _ 128 (tile1 m c t 0 (by decide) _) (by decide) (by decide) y' y h1 h2)
  case piece11 y' => exact (show _ = rp (sl0 (mm m c t (View.ld (iblk m c 1 t : Vec Ideal S1024x1536 .bf16) r0_2))) (k0_pay6 (View.ld (iblk m c 2 t : Vec Ideal S1024x128 .f32) r0_0)) (k0_pay7 (View.ld (iblk m c 3 t : Vec Ideal S1024x128 .f32) r0_0)) y from rfl).trans (q_piece m c t _ 0 (tile0 m c t 0 (by decide) _) (by decide) (by decide) y' y h1 (h2.trans (Nat.zero_add _).symm))

end Cert.QkvIdeal.Val

end
-- ==== Proof.QkvClaim.lean ====
module

public import proofs.«01_k».proof.Defs
public import proofs.«01_k».proof.Proof.QkvValue

/-!
The kernel of the q, k and v projection and its reference end with one result.
-/

@[expose] public section

noncomputable section

namespace Cert.Proof.Qkv

open Idealize.ShloMosaic Idealize.SL.Sem

theorem algebraic : Cert.algebraic_QkvIdeal_QkvReferenceIdeal (hQkvIdeal := Cert.QkvIdeal.Gen.facts)
    (hQkvReferenceIdeal := Cert.QkvReferenceIdeal.Gen.facts) := by
  pair_intro
  · run_from Cert.QkvIdeal.Value.run_blocks m g
  · run_from Cert.QkvReferenceIdeal.Value.run m' g'
    obtain ⟨a0, a1⟩ := hagree c
    refine Eq.trans ?_ (Cert.QkvIdeal.Val.final m c).symm
    rw [Cert.QkvReferenceIdeal.Val.final]
    rw [a0, a1]

end Cert.Proof.Qkv

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Ffn.Frame
public import proofs.«01_k».proof.Proof.Gen.FfnIdeal.Frame
public import proofs.«01_k».proof.Proof.Gen.Merge.Frame
public import proofs.«01_k».proof.Proof.Gen.MergeIdeal.Frame
public import proofs.«01_k».proof.Proof.Gen.Gates.Frame
public import proofs.«01_k».proof.Proof.Gen.GatesIdeal.Frame
public import proofs.«01_k».proof.Proof.Gen.Xbc.Frame
public import proofs.«01_k».proof.Proof.Gen.XbcIdeal.Frame
public import proofs.«01_k».proof.Proof.Gen.Qkv.Frame
public import proofs.«01_k».proof.Proof.Gen.QkvIdeal.Frame
public import proofs.«01_k».proof.Proof.Gen.Pre_logits_finite
public import proofs.«01_k».proof.Proof.AttClaim
public import proofs.«01_k».proof.Proof.FfnClaim
public import proofs.«01_k».proof.Proof.MergeClaim
public import proofs.«01_k».proof.Proof.GatesClaim
public import proofs.«01_k».proof.Proof.XbcClaim
public import proofs.«01_k».proof.Proof.QkvClaim
public import Idealize.ShloMosaic.Lib.Claim

/-!
The claims about the calls, put together.
-/

@[expose] public section

noncomputable section

namespace Cert.Proof

open Idealize.ShloMosaic Idealize.SL.Sem Cert.Kernel

theorem ref_frame : Cert.quiescent_ReferenceIdeal (hReferenceIdeal := Cert.ReferenceIdeal.Gen.facts) := by
  intro m g _
  hlo_run
  · simp
  · exact sem_eq_zero_of_no_sems rfl _

theorem ffn_ref_frame : Cert.quiescent_FfnReferenceIdeal (hFfnReferenceIdeal := Cert.FfnReferenceIdeal.Gen.facts) := by
  intro m g _
  hlo_run
  · simp
  · exact sem_eq_zero_of_no_sems rfl _

theorem merge_ref_frame : Cert.quiescent_MergeReferenceIdeal (hMergeReferenceIdeal := Cert.MergeReferenceIdeal.Gen.facts) := by
  intro m g _
  hlo_run
  · simp
  · exact sem_eq_zero_of_no_sems rfl _

theorem gates_ref_frame : Cert.quiescent_GatesReferenceIdeal (hGatesReferenceIdeal := Cert.GatesReferenceIdeal.Gen.facts) := by
  intro m g _
  hlo_run
  · simp
  · exact sem_eq_zero_of_no_sems rfl _

theorem xbc_ref_frame : Cert.quiescent_XbcReferenceIdeal (hXbcReferenceIdeal := Cert.XbcReferenceIdeal.Gen.facts) := by
  intro m g _
  hlo_run
  · simp
  · exact sem_eq_zero_of_no_sems rfl _

theorem qkv_ref_frame : Cert.quiescent_QkvReferenceIdeal (hQkvReferenceIdeal := Cert.QkvReferenceIdeal.Gen.facts) := by
  intro m g _
  hlo_run
  · simp
  · exact sem_eq_zero_of_no_sems rfl _

theorem claim : Cert.Claim := ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Merge.Gen.facts, Cert.MergeIdeal.Gen.facts, Cert.MergeReferenceIdeal.Gen.facts,
    Cert.Gates.Gen.facts, Cert.GatesIdeal.Gen.facts, Cert.GatesReferenceIdeal.Gen.facts,
    Cert.Xbc.Gen.facts, Cert.XbcIdeal.Gen.facts, Cert.XbcReferenceIdeal.Gen.facts,
    Cert.Qkv.Gen.facts, Cert.QkvIdeal.Gen.facts, Cert.QkvReferenceIdeal.Gen.facts,
    Cert.Pre_logits_finite.Gen.facts,
  fun m ρ _ => Cert.Kernel.Gen.frame m ρ,
  fun m ρ _ => Cert.KernelIdeal.Gen.frame m ρ,
  fun m ρ _ => Cert.KernelIdeal.Gen.frame m ρ,
  ref_frame,
  fun m ρ _ => ref_frame m ρ trivial,
  fun m ρ _ => Cert.Ffn.Gen.frame m ρ,
  fun m ρ _ => Cert.FfnIdeal.Gen.frame m ρ,
  ffn_ref_frame,
  fun m ρ _ => Cert.Merge.Gen.frame m ρ,
  fun m ρ _ => Cert.MergeIdeal.Gen.frame m ρ,
  merge_ref_frame,
  fun m ρ _ => Cert.Gates.Gen.frame m ρ,
  fun m ρ _ => Cert.GatesIdeal.Gen.frame m ρ,
  gates_ref_frame,
  fun m ρ _ => Cert.Xbc.Gen.frame m ρ,
  fun m ρ _ => Cert.XbcIdeal.Gen.frame m ρ,
  xbc_ref_frame,
  fun m ρ _ => Cert.Qkv.Gen.frame m ρ,
  fun m ρ _ => Cert.QkvIdeal.Gen.frame m ρ,
  qkv_ref_frame,
  trivial,
  Cert.Proof.Att.algebraic,
  trivial,
  Cert.Proof.Ffn.algebraic,
  trivial,
  Cert.Proof.Merge.algebraic,
  trivial,
  Cert.Proof.Gates.algebraic,
  trivial,
  Cert.Proof.Xbc.algebraic,
  trivial,
  Cert.Proof.Qkv.algebraic⟩

end Cert.Proof

end
